-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "future_bias" .f32 0xFC400000#32 ⊥
  ∧ IdealRules.named_const.Statement Cert.KernelIdeal.κ "slash_bias" .f32 0x7C400000#32 ⊤
  ∧ IdealRules.named_const.Statement Cert.KernelIdeal.κ "vertical_bias" .f32 0x7C000000#32 ⊤
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x40x128 : Shape := ⟨4, ![3, 640, 40, 128]⟩
abbrev S3x40 : Shape := ⟨2, ![3, 40]⟩
abbrev S3x640x8x128 : Shape := ⟨4, ![3, 640, 8, 128]⟩
abbrev S3x8 : Shape := ⟨2, ![3, 8]⟩
abbrev S3x40x100 : Shape := ⟨3, ![3, 40, 100]⟩
abbrev S3x40x180 : Shape := ⟨3, ![3, 40, 180]⟩
abbrev S3x640x5120 : Shape := ⟨3, ![3, 640, 5120]⟩
abbrev S3x640x1024 : Shape := ⟨3, ![3, 640, 1024]⟩
abbrev S120 : Shape := ⟨1, ![120]⟩
abbrev S24 : Shape := ⟨1, ![24]⟩
abbrev S3x8x5x100 : Shape := ⟨4, ![3, 8, 5, 100]⟩
abbrev S3x8x5x180 : Shape := ⟨4, ![3, 8, 5, 180]⟩
abbrev S1x640x640 : Shape := ⟨3, ![1, 640, 640]⟩
abbrev S1x640x128 : Shape := ⟨3, ![1, 640, 128]⟩
abbrev S1x1x5x100 : Shape := ⟨4, ![1, 1, 5, 100]⟩
abbrev S1x1x5x180 : Shape := ⟨4, ![1, 1, 5, 180]⟩
abbrev S128x640 : Shape := ⟨2, ![128, 640]⟩
abbrev S640x128 : Shape := ⟨2, ![640, 128]⟩
abbrev S1x128x128 : Shape := ⟨3, ![1, 128, 128]⟩
abbrev S128x128 : Shape := ⟨2, ![128, 128]⟩
abbrev S8x128 : Shape := ⟨2, ![8, 128]⟩
abbrev S1x1x1x180 : Shape := ⟨4, ![1, 1, 1, 180]⟩
abbrev S1x180 : Shape := ⟨2, ![1, 180]⟩
abbrev S1 : Shape := ⟨1, ![1]⟩
abbrev S8x180 : Shape := ⟨2, ![8, 180]⟩
abbrev S128x180 : Shape := ⟨2, ![128, 180]⟩
abbrev S1x128 : Shape := ⟨2, ![1, 128]⟩
abbrev S1x1x1x100 : Shape := ⟨4, ![1, 1, 1, 100]⟩
abbrev S1x100 : Shape := ⟨2, ![1, 100]⟩
abbrev S8x100 : Shape := ⟨2, ![8, 100]⟩
abbrev S128x100 : Shape := ⟨2, ![128, 100]⟩
abbrev S128x8 : Shape := ⟨2, ![128, 8]⟩
abbrev S128x1 : Shape := ⟨2, ![128, 1]⟩
abbrev S128 : Shape := ⟨1, ![128]⟩
abbrev S1x256x128 : Shape := ⟨3, ![1, 256, 128]⟩
abbrev S256x128 : Shape := ⟨2, ![256, 128]⟩
abbrev S128x256 : Shape := ⟨2, ![128, 256]⟩
abbrev S1x384x128 : Shape := ⟨3, ![1, 384, 128]⟩
abbrev S384x128 : Shape := ⟨2, ![384, 128]⟩
abbrev S128x384 : Shape := ⟨2, ![128, 384]⟩
abbrev S1x512x128 : Shape := ⟨3, ![1, 512, 128]⟩
abbrev S512x128 : Shape := ⟨2, ![512, 128]⟩
abbrev S128x512 : Shape := ⟨2, ![128, 512]⟩

abbrev nBuf : Space → Nat
  | .hbm => 21
  | .vmem => 15
  | .smem => 5
  | _ => 0

abbrev bufTy : (tb : Table) → Fin (tcTables nBuf tb) → BufTy
  | .hbm, ⟨0, _⟩ => ⟨S3x640x40x128, .fp8e4m3⟩
  | .hbm, ⟨1, _⟩ => ⟨S3x40, .f32⟩
  | .hbm, ⟨2, _⟩ => ⟨S3x640x8x128, .fp8e4m3⟩
  | .hbm, ⟨3, _⟩ => ⟨S3x8, .f32⟩
  | .hbm, ⟨4, _⟩ => ⟨S3x640x8x128, .fp8e4m3⟩
  | .hbm, ⟨5, _⟩ => ⟨S3x8, .f32⟩
  | .hbm, ⟨6, _⟩ => ⟨S3x40x100, .i32⟩
  | .hbm, ⟨7, _⟩ => ⟨S3x40, .i32⟩
  | .hbm, ⟨8, _⟩ => ⟨S3x40x180, .i32⟩
  | .hbm, ⟨9, _⟩ => ⟨S3x40, .i32⟩
  | .hbm, ⟨10, _⟩ => ⟨S3x640x5120, .fp8e4m3⟩
  | .hbm, ⟨11, _⟩ => ⟨S3x640x1024, .fp8e4m3⟩
  | .hbm, ⟨12, _⟩ => ⟨S3x640x1024, .fp8e4m3⟩
  | .hbm, ⟨13, _⟩ => ⟨S120, .i32⟩
  | .hbm, ⟨14, _⟩ => ⟨S120, .i32⟩
  | .hbm, ⟨15, _⟩ => ⟨S120, .f32⟩
  | .hbm, ⟨16, _⟩ => ⟨S24, .f32⟩
  | .hbm, ⟨17, _⟩ => ⟨S24, .f32⟩
  | .hbm, ⟨18, _⟩ => ⟨S3x8x5x100, .i32⟩
  | .hbm, ⟨19, _⟩ => ⟨S3x8x5x180, .i32⟩
  | .hbm, ⟨20, _⟩ => ⟨S3x640x5120, .bf16⟩
  | .local _ .vmem, ⟨0, _⟩ => ⟨S1x640x640, .fp8e4m3⟩
  | .local _ .vmem, ⟨1, _⟩ => ⟨S1x640x640, .fp8e4m3⟩
  | .local _ .vmem, ⟨2, _⟩ => ⟨S1x640x128, .fp8e4m3⟩
  | .local _ .vmem, ⟨3, _⟩ => ⟨S1x640x128, .fp8e4m3⟩
  | .local _ .vmem, ⟨4, _⟩ => ⟨S1x640x128, .fp8e4m3⟩
  | .local _ .vmem, ⟨5, _⟩ => ⟨S1x640x128, .fp8e4m3⟩
  | .local _ .vmem, ⟨6, _⟩ => ⟨S1x1x5x100, .i32⟩
  | .local _ .vmem, ⟨7, _⟩ => ⟨S1x1x5x100, .i32⟩
  | .local _ .vmem, ⟨8, _⟩ => ⟨S1x1x5x180, .i32⟩
  | .local _ .vmem, ⟨9, _⟩ => ⟨S1x1x5x180, .i32⟩
  | .local _ .vmem, ⟨10, _⟩ => ⟨S1x640x640, .bf16⟩
  | .local _ .vmem, ⟨11, _⟩ => ⟨S1x640x640, .bf16⟩
  | .local _ .vmem, ⟨12, _⟩ => ⟨S128x640, .bf16⟩
  | .local _ .vmem, ⟨13, _⟩ => ⟨S640x128, .f32⟩
  | .local _ .vmem, ⟨14, _⟩ => ⟨S640x128, .f32⟩
  | .local _ .smem, ⟨0, _⟩ => ⟨S120, .i32⟩
  | .local _ .smem, ⟨1, _⟩ => ⟨S120, .i32⟩
  | .local _ .smem, ⟨2, _⟩ => ⟨S120, .f32⟩
  | .local _ .smem, ⟨3, _⟩ => ⟨S24, .f32⟩
  | .local _ .smem, ⟨4, _⟩ => ⟨S24, .f32⟩
  | _, _ => ⟨S3x640x40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg7_1 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![3, 8], ![false, false]⟩

def k0_off1 (i : grid0.Coords) (c0_i32 : BitVec 32) : Fin 1 → Nat :=
  let arg0 : BitVec 32 := BitVec.ofNat 32 (i 0).val
  let c40_i32 : BitVec 32 := 40#32
  let v43 : BitVec 32 := Scalar.muli arg0 c40_i32
  let arg1 : BitVec 32 := BitVec.ofNat 32 (i 1).val
  let c5_i32 : BitVec 32 := 5#32
  let v44 : BitVec 32 := Scalar.muli arg1 c5_i32
  let v45 : BitVec 32 := Scalar.addi v43 v44
  let v46 : BitVec 32 := Scalar.addi v45 c0_i32
  let v49 : Index := Scalar.indexCast v46
  ![v49.toNat]
def k0_off2 (i : grid0.Coords) : Fin 1 → Nat :=
  let arg0 : BitVec 32 := BitVec.ofNat 32 (i 0).val
  let c8_i32_283 : BitVec 32 := 8#32
  let v715 : BitVec 32 := Scalar.muli arg0 c8_i32_283
  let arg1 : BitVec 32 := BitVec.ofNat 32 (i 1).val
  let v716 : BitVec 32 := Scalar.addi v715 arg1
  let v717 : Index := Scalar.indexCast v716
  ![v717.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S120 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S120 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x640x640 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x640x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x640x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x5x100 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x5x180 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x640x640 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "future_bias" => some ⊥
  | "log2e" => some (((Real.log 2)⁻¹ : ℝ) : EReal)
  | "slash_bias" => some ⊤
  | "vertical_bias" => some ⊤
  | _ => none
-- ==== ReferenceIdeal.lean ====
abbrev S3x640x40x128 : Shape := ⟨4, ![3, 640, 40, 128]⟩
abbrev S3x40 : Shape := ⟨2, ![3, 40]⟩
abbrev S3x640x8x128 : Shape := ⟨4, ![3, 640, 8, 128]⟩
abbrev S3x8 : Shape := ⟨2, ![3, 8]⟩
abbrev S3x40x100 : Shape := ⟨3, ![3, 40, 100]⟩
abbrev S3x40x180 : Shape := ⟨3, ![3, 40, 180]⟩
abbrev S3x640x8x5x128 : Shape := ⟨5, ![3, 640, 8, 5, 128]⟩
abbrev S640 : Shape := ⟨1, ![640]⟩
abbrev S100 : Shape := ⟨1, ![100]⟩
abbrev S3x40x1 : Shape := ⟨3, ![3, 40, 1]⟩
abbrev S1x1x100 : Shape := ⟨3, ![1, 1, 100]⟩
abbrev S180 : Shape := ⟨1, ![180]⟩
abbrev S1x1x180 : Shape := ⟨3, ![1, 1, 180]⟩
abbrev S640x1 : Shape := ⟨2, ![640, 1]⟩
abbrev S1x640 : Shape := ⟨2, ![1, 640]⟩
abbrev S640x640 : Shape := ⟨2, ![640, 640]⟩
abbrev S3x40x1x100 : Shape := ⟨4, ![3, 40, 1, 100]⟩
abbrev S1x1x640x1 : Shape := ⟨4, ![1, 1, 640, 1]⟩
abbrev S3x40x640x100 : Shape := ⟨4, ![3, 40, 640, 100]⟩
abbrev S_ : Shape := ⟨0, ![]⟩
abbrev S3x40x640 : Shape := ⟨3, ![3, 40, 640]⟩
abbrev S3x40x1x1x180 : Shape := ⟨5, ![3, 40, 1, 1, 180]⟩
abbrev S640x640x1 : Shape := ⟨3, ![640, 640, 1]⟩
abbrev S1x1x640x640x1 : Shape := ⟨5, ![1, 1, 640, 640, 1]⟩
abbrev S3x40x640x640x180 : Shape := ⟨5, ![3, 40, 640, 640, 180]⟩
abbrev S3x40x640x640 : Shape := ⟨4, ![3, 40, 640, 640]⟩
abbrev S3x40x1x640 : Shape := ⟨4, ![3, 40, 1, 640]⟩
abbrev S3x8x5x640x640 : Shape := ⟨5, ![3, 8, 5, 640, 640]⟩
abbrev S3x8x5 : Shape := ⟨3, ![3, 8, 5]⟩
abbrev S3x8x1 : Shape := ⟨3, ![3, 8, 1]⟩
abbrev S3x8x640x640x5 : Shape := ⟨5, ![3, 8, 640, 640, 5]⟩
abbrev S3x8x5x1x1 : Shape := ⟨5, ![3, 8, 5, 1, 1]⟩
abbrev S3x8x5x640 : Shape := ⟨4, ![3, 8, 5, 640]⟩
abbrev S3x8x5x640x1 : Shape := ⟨5, ![3, 8, 5, 640, 1]⟩
abbrev S3x8x5x640x128 : Shape := ⟨5, ![3, 8, 5, 640, 128]⟩
abbrev S3x8x1x1x1 : Shape := ⟨5, ![3, 8, 1, 1, 1]⟩
abbrev S3x640x5120 : Shape := ⟨3, ![3, 640, 5120]⟩

abbrev nBuf : Space → Nat
  | .hbm => 105
  | .vmem => 6
  | .smem => 0
  | _ => 0

abbrev bufTy : (tb : Table) → Fin (tcTables nBuf tb) → BufTy
  | .hbm, ⟨0, _⟩ => ⟨S3x640x40x128, .fp8e4m3⟩
  | .hbm, ⟨1, _⟩ => ⟨S3x40, .f32⟩
  | .hbm, ⟨2, _⟩ => ⟨S3x640x8x128, .fp8e4m3⟩
  | .hbm, ⟨3, _⟩ => ⟨S3x8, .f32⟩
  | .hbm, ⟨4, _⟩ => ⟨S3x640x8x128, .fp8e4m3⟩
  | .hbm, ⟨5, _⟩ => ⟨S3x8, .f32⟩
  | .hbm, ⟨6, _⟩ => ⟨S3x40x100, .i32⟩
  | .hbm, ⟨7, _⟩ => ⟨S3x40, .i32⟩
  | .hbm, ⟨8, _⟩ => ⟨S3x40x180, .i32⟩
  | .hbm, ⟨9, _⟩ => ⟨S3x40, .i32⟩
  | .hbm, ⟨10, _⟩ => ⟨S3x640x40x128, .f32⟩
  | .hbm, ⟨11, _⟩ => ⟨S3x640x8x128, .f32⟩
  | .hbm, ⟨12, _⟩ => ⟨S3x640x8x128, .f32⟩
  | .hbm, ⟨13, _⟩ => ⟨S3x640x8x5x128, .f32⟩
  | .hbm, ⟨14, _⟩ => ⟨S640, .i32⟩
  | .hbm, ⟨15, _⟩ => ⟨S100, .i32⟩
  | .hbm, ⟨16, _⟩ => ⟨S3x40x1, .i32⟩
  | .hbm, ⟨17, _⟩ => ⟨S1x1x100, .i32⟩
  | .hbm, ⟨18, _⟩ => ⟨S3x40x100, .i32⟩
  | .hbm, ⟨19, _⟩ => ⟨S3x40x100, .i32⟩
  | .hbm, ⟨20, _⟩ => ⟨S3x40x100, .i1⟩
  | .hbm, ⟨21, _⟩ => ⟨S180, .i32⟩
  | .hbm, ⟨22, _⟩ => ⟨S3x40x1, .i32⟩
  | .hbm, ⟨23, _⟩ => ⟨S1x1x180, .i32⟩
  | .hbm, ⟨24, _⟩ => ⟨S3x40x180, .i32⟩
  | .hbm, ⟨25, _⟩ => ⟨S3x40x180, .i32⟩
  | .hbm, ⟨26, _⟩ => ⟨S3x40x180, .i1⟩
  | .hbm, ⟨27, _⟩ => ⟨S640x1, .i32⟩
  | .hbm, ⟨28, _⟩ => ⟨S1x640, .i32⟩
  | .hbm, ⟨29, _⟩ => ⟨S640x640, .i32⟩
  | .hbm, ⟨30, _⟩ => ⟨S640x640, .i32⟩
  | .hbm, ⟨31, _⟩ => ⟨S640x640, .i32⟩
  | .hbm, ⟨32, _⟩ => ⟨S3x40x1x100, .i32⟩
  | .hbm, ⟨33, _⟩ => ⟨S640x1, .i32⟩
  | .hbm, ⟨34, _⟩ => ⟨S1x1x640x1, .i32⟩
  | .hbm, ⟨35, _⟩ => ⟨S3x40x640x100, .i32⟩
  | .hbm, ⟨36, _⟩ => ⟨S3x40x640x100, .i32⟩
  | .hbm, ⟨37, _⟩ => ⟨S3x40x640x100, .i1⟩
  | .hbm, ⟨38, _⟩ => ⟨S3x40x1x100, .i1⟩
  | .hbm, ⟨39, _⟩ => ⟨S3x40x640x100, .i1⟩
  | .hbm, ⟨40, _⟩ => ⟨S3x40x640x100, .i1⟩
  | .hbm, ⟨41, _⟩ => ⟨S_, .i1⟩
  | .hbm, ⟨42, _⟩ => ⟨S3x40x640, .i1⟩
  | .hbm, ⟨43, _⟩ => ⟨S3x40x1x1x180, .i32⟩
  | .hbm, ⟨44, _⟩ => ⟨S640x640x1, .i32⟩
  | .hbm, ⟨45, _⟩ => ⟨S1x1x640x640x1, .i32⟩
  | .hbm, ⟨46, _⟩ => ⟨S3x40x640x640x180, .i32⟩
  | .hbm, ⟨47, _⟩ => ⟨S3x40x640x640x180, .i32⟩
  | .hbm, ⟨48, _⟩ => ⟨S3x40x640x640x180, .i1⟩
  | .hbm, ⟨49, _⟩ => ⟨S3x40x1x1x180, .i1⟩
  | .hbm, ⟨50, _⟩ => ⟨S3x40x640x640x180, .i1⟩
  | .hbm, ⟨51, _⟩ => ⟨S3x40x640x640x180, .i1⟩
  | .hbm, ⟨52, _⟩ => ⟨S_, .i1⟩
  | .hbm, ⟨53, _⟩ => ⟨S3x40x640x640, .i1⟩
  | .hbm, ⟨54, _⟩ => ⟨S3x40x1x640, .i1⟩
  | .hbm, ⟨55, _⟩ => ⟨S3x40x640x640, .i1⟩
  | .hbm, ⟨56, _⟩ => ⟨S3x40x640x640, .i1⟩
  | .hbm, ⟨57, _⟩ => ⟨S3x8x5x640x640, .i1⟩
  | .hbm, ⟨58, _⟩ => ⟨S_, .i32⟩
  | .hbm, ⟨59, _⟩ => ⟨S640x640, .i32⟩
  | .hbm, ⟨60, _⟩ => ⟨S640x640, .i1⟩
  | .hbm, ⟨61, _⟩ => ⟨S3x8x5, .f32⟩
  | .hbm, ⟨62, _⟩ => ⟨S3x8x1, .f32⟩
  | .hbm, ⟨63, _⟩ => ⟨S3x8x5, .f32⟩
  | .hbm, ⟨64, _⟩ => ⟨S3x8x5, .f32⟩
  | .hbm, ⟨65, _⟩ => ⟨S_, .f32⟩
  | .hbm, ⟨66, _⟩ => ⟨S3x8x5, .f32⟩
  | .hbm, ⟨67, _⟩ => ⟨S3x8x5, .f32⟩
  | .hbm, ⟨68, _⟩ => ⟨S3x8x640x640x5, .f32⟩
  | .hbm, ⟨69, _⟩ => ⟨S3x8x5x640x640, .f32⟩
  | .hbm, ⟨70, _⟩ => ⟨S3x8x5x1x1, .f32⟩
  | .hbm, ⟨71, _⟩ => ⟨S3x8x5x640x640, .f32⟩
  | .hbm, ⟨72, _⟩ => ⟨S3x8x5x640x640, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S3x8x5x640x640, .f32⟩
  | .hbm, ⟨78, _⟩ => ⟨S3x8x5x640x640, .f32⟩
  | .hbm, ⟨79, _⟩ => ⟨S3x8x5x640x640, .f32⟩
  | .hbm, ⟨80, _⟩ => ⟨S_, .f32⟩
  | .hbm, ⟨81, _⟩ => ⟨S_, .f32⟩
  | .hbm, ⟨82, _⟩ => ⟨S3x8x5x640x640, .i1⟩
  | .hbm, ⟨83, _⟩ => ⟨S3x8x5x640x640, .f32⟩
  | .hbm, ⟨84, _⟩ => ⟨S3x8x5x640x640, .f32⟩
  | .hbm, ⟨85, _⟩ => ⟨S_, .f32⟩
  | .hbm, ⟨86, _⟩ => ⟨S3x8x5x640, .f32⟩
  | .hbm, ⟨87, _⟩ => ⟨S3x8x5x640x1, .f32⟩
  | .hbm, ⟨88, _⟩ => ⟨S3x8x5x640x640, .f32⟩
  | .hbm, ⟨89, _⟩ => ⟨S3x8x5x640x640, .f32⟩
  | .hbm, ⟨90, _⟩ => ⟨S3x8x5x640x640, .f32⟩
  | .hbm, ⟨91, _⟩ => ⟨S_, .f32⟩
  | .hbm, ⟨92, _⟩ => ⟨S3x8x5x640, .f32⟩
  | .hbm, ⟨93, _⟩ => ⟨S3x8x5x640x1, .f32⟩
  | .hbm, ⟨94, _⟩ => ⟨S3x8x5x640x640, .bf16⟩
  | .hbm, ⟨95, _⟩ => ⟨S3x640x8x128, .bf16⟩
  | .hbm, ⟨96, _⟩ => ⟨S3x8x5x640x128, .f32⟩
  | .hbm, ⟨97, _⟩ => ⟨S3x8x1x1x1, .f32⟩
  | .hbm, ⟨98, _⟩ => ⟨S3x8x5x640x1, .f32⟩
  | .hbm, ⟨99, _⟩ => ⟨S3x8x5x640x1, .f32⟩
  | .hbm, ⟨100, _⟩ => ⟨S3x8x5x640x128, .f32⟩
  | .hbm, ⟨101, _⟩ => ⟨S3x8x5x640x128, .f32⟩
  | .hbm, ⟨102, _⟩ => ⟨S3x640x8x5x128, .f32⟩
  | .hbm, ⟨103, _⟩ => ⟨S3x640x5120, .f32⟩
  | .hbm, ⟨104, _⟩ => ⟨S3x640x5120, .bf16⟩
  | .local _ .vmem, ⟨0, _⟩ => ⟨S3x640x40x128, .fp8e4m3⟩
  | .local _ .vmem, ⟨1, _⟩ => ⟨S3x640x8x128, .fp8e4m3⟩
  | .local _ .vmem, ⟨2, _⟩ => ⟨S3x640x8x128, .fp8e4m3⟩
  | .local _ .vmem, ⟨3, _⟩ => ⟨S3x640x40x128, .f32⟩
  | .local _ .vmem, ⟨4, _⟩ => ⟨S3x640x8x128, .f32⟩
  | .local _ .vmem, ⟨5, _⟩ => ⟨S3x640x8x128, .f32⟩
  | _, _ => ⟨S3x640x40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_1 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_2 : Ref sig .tc := ⟨.hbm, 73, rfl⟩
abbrev main_v57 : Ref sig .tc := ⟨.hbm, 74, rfl⟩
abbrev main_cst_3 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_4 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v62 : Ref sig .tc := ⟨.hbm, 84, rfl⟩
abbrev main_cst_5 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_6 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x640x40x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
/- The kernel body's stored values, written once for all heads and blocks: the bias table's 80 bands, the vertical
   column's five blocks, the five transposed blocks of values, and one output tile. -/
module

public import proofs.«01_k».proof.Proof.Gen.KernelIdeal.Frame
public import Idealize.ShloMosaic.Lib.ShapeFacts
public import Idealize.ShloMosaic.Lib.MatmulPlain

@[expose] public section

set_option maxRecDepth 16384

noncomputable section

namespace Cert.KernelIdeal.Hand

open Idealize.ShloMosaic Idealize.ShloMosaic.TcCoe Idealize.ShloMosaic.Tactic Cert.KernelIdeal.Gen

variable {F : FTy → Type} [FloatOps F] [Named F]

/-- The codes of the slash offsets: entry (a, lane) is the unclipped code where 128 a + lane is a listed offset. -/
def slashCodes (row : IVec S1x1x1x180 32) (cnt : BitVec 32) : FVec F S8x128 .f32 :=
  k0_pay11 (k0_pay9 row cnt) (k0_pay10 row cnt)

/-- The codes of the vertical indices: entry (lane, a) is the unclipped code where 128 a + lane is a listed key. -/
def verticalCodes (row : IVec S1x1x1x100 32) (cnt : BitVec 32) : FVec F S128x8 .f32 :=
  k0_pay177 (k0_pay176 (F := F) row cnt) (Named.named κ "vertical_bias" 0x7C000000#32)

theorem slices_codes (a : Fin 5) : S8x128.Slices ![a.val, 0] S1x128 := by revert a; decide

/-- Row `a` of the codes, turned by one lane more in each sublane. -/
def turned (codes : FVec F S8x128 .f32) (a : Fin 5) : FVec F S8x128 .f32 :=
  dynamicRotate 1 0#32 (some (1, 0))
    (broadcastTo S8x128 (shapeCast S1x128 (extractStridedSlice S1x128 ![a.val, 0] codes (slices_codes a)) shapeCasts_S1x128_S1x128)
      broadcasts_S1x128_S8x128) rotates_S8x128_d1s1a0

/-- What stands before band `a` of a family of bands: band `a - 1`, the future's code before the first. -/
def before (f : Fin 5 → FVec F S8x128 .f32) (a : Fin 5) : FVec F S8x128 .f32 :=
  match a with
  | ⟨0, _⟩ => k0_pay7
  | ⟨k + 1, h⟩ => f ⟨k, Nat.lt_of_succ_lt h⟩

/-- Band `a` at the first eight rows. -/
def base (codes : FVec F S8x128 .f32) (a : Fin 5) : FVec F S8x128 .f32 :=
  select (cmpi .sge (iota .tc S8x128 32 [1] iota_S8x128_d1_w32) (iota .tc S8x128 32 [0] iota_S8x128_d0_w32))
    (turned codes a) (before (turned codes) a)

/-- Band `a` at the first eight rows, turned by `8 j` lanes. -/
def shifted (codes : FVec F S8x128 .f32) (j : Fin 16) (a : Fin 5) : FVec F S8x128 .f32 :=
  dynamicRotate 1 (BitVec.ofNat 32 (8 * j.val)) none (base codes a) rotates_S8x128_d1

/-- Band `a` at the rows `8 j` to `8 j + 7`. -/
def band (codes : FVec F S8x128 .f32) (j : Fin 16) (a : Fin 5) : FVec F S8x128 .f32 :=
  match j with
  | ⟨0, _⟩ => base codes a
  | ⟨j' + 1, h⟩ =>
    select (cmpi .sge (iota .tc S8x128 32 [1] iota_S8x128_d1_w32) (broadcast S8x128 (BitVec.ofNat 32 (8 * (j' + 1)))))
      (shifted codes ⟨j' + 1, h⟩ a) (before (shifted codes ⟨j' + 1, h⟩) a)

theorem inb_band (j : Fin 16) (a : Fin 5) :
    ∀ x, (![512 - 128 * a.val + 8 * j.val, 0] : Fin 2 → Nat) x + S8x128.size x ≤ S640x128.size x := by
  intro x; fin_cases x
  · show 512 - 128 * a.val + 8 * j.val + 8 ≤ 640; omega
  · show 0 + 128 ≤ 128; omega

/-- The 80 stores that fill the bias table, last first. -/
def tabPieces (codes : FVec F S8x128 .f32) : List (View.Piece (Elt F) S640x128 .f32) :=
  (List.finRange 16).reverse.flatMap fun j => (List.finRange 5).reverse.map fun a =>
    ⟨Rect.unit ![512 - 128 * a.val + 8 * j.val, 0] S8x128.size (inb_band j a),
      shapeCast S8x128 (band codes j a) shapeCasts_S8x128_S8x128⟩

theorem slices_vcodes (a : Fin 5) : S128x8.Slices ![0, a.val] S128x1 := by revert a; decide

theorem inb_rows (a : Fin 5) :
    ∀ x, (![128 * a.val, 0] : Fin 2 → Nat) x + S128x128.size x ≤ S640x128.size x := by
  intro x; fin_cases x
  · show 128 * a.val + 128 ≤ 640; omega
  · show 0 + 128 ≤ 128; omega

theorem inb_cols (a : Fin 5) :
    ∀ x, (![0, 128 * a.val] : Fin 2 → Nat) x + S128x128.size x ≤ S128x640.size x := by
  intro x; fin_cases x
  · show 0 + 128 ≤ 128; omega
  · show 128 * a.val + 128 ≤ 640; omega

/-- The five stores that fill the column of vertical codes, last first. -/
def vcolPieces (codes : FVec F S128x8 .f32) : List (View.Piece (Elt F) S640x128 .f32) :=
  (List.finRange 5).reverse.map fun a =>
    ⟨Rect.unit ![128 * a.val, 0] S128x128.size (inb_rows a),
      shapeCast S128x128 (broadcastTo S128x128 (shapeCast S128x1 (extractStridedSlice S128x1 ![0, a.val] codes (slices_vcodes a))
        shapeCasts_S128x1_S128x1) broadcasts_S128x1_S128x128) shapeCasts_S128x128_S128x128⟩

/-- The five stores that fill the transposed values, last first. -/
def vtPieces (v : Fin 5 → Vec F S1x128x128 .fp8e4m3) : List (View.Piece (Elt F) S128x640 .bf16) :=
  (List.finRange 5).reverse.map fun a =>
    ⟨Rect.unit ![0, 128 * a.val] S128x128.size (inb_cols a), k0_pay2 (v a)⟩

/-- The stores of heads `0` to `h`, those of head `h` first. -/
def upTo {α : Type} (f : Fin 5 → List α) : (h : Nat) → h < 5 → List α
  | 0, hh => f ⟨0, hh⟩
  | h + 1, hh => f ⟨h + 1, hh⟩ ++ upTo f h (Nat.lt_of_succ_lt hh)

section Tile

variable (n : Nat)

theorem casts_rows : (⟨3, ![1, n, 128]⟩ : Shape).ShapeCasts ⟨2, ![n, 128]⟩ := by
  simp [Shape.ShapeCasts, Shape.numel_rank2, Shape.numel_rank3]

theorem reduces_rows : (⟨2, ![n, 128]⟩ : Shape).Reduces [0] S128 :=
  ⟨rfl, Nat.one_pos, fun b => by fin_cases b; rfl⟩

theorem broadcasts_rows : S1x128.Broadcasts ⟨2, ![n, 128]⟩ :=
  ⟨Nat.le_refl 2, fun x => by fin_cases x <;> first | exact .inl rfl | exact .inr fun _ => rfl⟩

/-- The clipped scores of `n` keys (rows) for 128 queries (lanes). -/
def clipped (q : Vec F S1x128x128 .fp8e4m3) (k : Vec F ⟨3, ![1, n, 128]⟩ .fp8e4m3) (tab vcol : Vec F ⟨2, ![n, 128]⟩ .f32)
    (c : F .f32) : FVec F ⟨2, ![n, 128]⟩ .f32 :=
  minimumf
    (mulf (matmul (DotDims.transposedRhs n 128 128) none (shapeCast ⟨2, ![n, 128]⟩ k (casts_rows n))
      (shapeCast S128x128 q shapeCasts_S1x128x128_S128x128) (constant ⟨2, ![n, 128]⟩ .f32 0x00000000#32))
      (broadcast ⟨2, ![n, 128]⟩ c))
    (addf tab vcol)

/-- The weights of `n` keys for 128 queries, the largest being 1. -/
def weights (u : FVec F ⟨2, ![n, 128]⟩ .f32) : FVec F ⟨2, ![n, 128]⟩ .f32 :=
  exp2 (subf u (broadcastTo ⟨2, ![n, 128]⟩
    (shapeCast S1x128 (multiReduction .maximumf [0] S128 u 0xFF800000#32 (reduces_rows n) (.inl rfl) rfl) shapeCasts_S128_S1x128)
    (broadcasts_rows n)))

/-- The tile of the output the weights give. -/
def tile (p : FVec F ⟨2, ![n, 128]⟩ .f32) (vt : Vec F ⟨2, ![128, n]⟩ .bf16) (vs : F .f32) : FVec F S1x128x128 .bf16 :=
  shapeCast S1x128x128 (truncf .bf16 (transpose S128x128 [1, 0]
    (mulf (matmul (DotDims.plain 128 n 128) none vt (truncf .bf16 p bitsLt_bf16_f32) (constant S128x128 .f32 0x00000000#32))
      (broadcastTo S128x128 (divf (broadcast S1x128 vs)
        (shapeCast S1x128 (multiReduction .add [0] S128 p 0x00000000#32 (reduces_rows n) (.inl rfl) rfl) shapeCasts_S128_S1x128))
        broadcasts_S1x128_S128x128))
    transposes_S128x128_p1_0_S128x128) bitsLt_bf16_f32) shapeCasts_S128x128_S1x128x128

end Tile

theorem inb_out (h qb : Fin 5) :
    ∀ x, (![0, 128 * qb.val, 128 * h.val] : Fin 3 → Nat) x + S1x128x128.size x ≤ S1x640x640.size x := by
  intro x; fin_cases x
  · show 0 + 1 ≤ 1; omega
  · show 128 * qb.val + 128 ≤ 640; omega
  · show 128 * h.val + 128 ≤ 640; omega

/-- The number of keys of query block `qb`. -/
abbrev nk (qb : Fin 5) : Nat := 128 * (qb.val + 1)

theorem inb_tab (qb : Fin 5) :
    ∀ x, (![512 - 128 * qb.val, 0] : Fin 2 → Nat) x + (⟨2, ![nk qb, 128]⟩ : Shape).size x ≤ S640x128.size x := by
  intro x; fin_cases x
  · show 512 - 128 * qb.val + 128 * (qb.val + 1) ≤ 640; omega
  · show 0 + 128 ≤ 128; omega

theorem inb_vcol (qb : Fin 5) :
    ∀ x, (![0, 0] : Fin 2 → Nat) x + (⟨2, ![nk qb, 128]⟩ : Shape).size x ≤ S640x128.size x := by
  intro x; fin_cases x
  · show 0 + 128 * (qb.val + 1) ≤ 640; omega
  · show 0 + 128 ≤ 128; omega

theorem inb_vt (qb : Fin 5) :
    ∀ x, (![0, 0] : Fin 2 → Nat) x + (⟨2, ![128, nk qb]⟩ : Shape).size x ≤ S128x640.size x := by
  intro x; fin_cases x
  · show 0 + 128 ≤ 128; omega
  · show 0 + 128 * (qb.val + 1) ≤ 640; omega

theorem inb_k (qb : Fin 5) :
    ∀ x, (![0, 0, 0] : Fin 3 → Nat) x + (⟨3, ![1, nk qb, 128]⟩ : Shape).size x ≤ S1x640x128.size x := by
  intro x; fin_cases x
  · show 0 + 1 ≤ 1; omega
  · show 0 + 128 * (qb.val + 1) ≤ 640; omega
  · show 0 + 128 ≤ 128; omega

theorem inb_v (a : Fin 5) :
    ∀ x, (![0, 128 * a.val, 0] : Fin 3 → Nat) x + S1x128x128.size x ≤ S1x640x128.size x := by
  intro x; fin_cases x
  · show 0 + 1 ≤ 1; omega
  · show 128 * a.val + 128 ≤ 640; omega
  · show 0 + 128 ≤ 128; omega

theorem inb_vidx (h : Fin 5) :
    ∀ x, (![0, 0, h.val, 0] : Fin 4 → Nat) x + S1x1x1x100.size x ≤ S1x1x5x100.size x := by
  intro x; fin_cases x
  · show 0 + 1 ≤ 1; omega
  · show 0 + 1 ≤ 1; omega
  · show h.val + 1 ≤ 5; omega
  · show 0 + 100 ≤ 100; omega

theorem inb_soff (h : Fin 5) :
    ∀ x, (![0, 0, h.val, 0] : Fin 4 → Nat) x + S1x1x1x180.size x ≤ S1x1x5x180.size x := by
  intro x; fin_cases x
  · show 0 + 1 ≤ 1; omega
  · show 0 + 1 ≤ 1; omega
  · show h.val + 1 ≤ 5; omega
  · show 0 + 180 ≤ 180; omega

/-- The 25 stores of the output block, last first, over what the body loads: per head the count and the row of the
    slash offsets and of the vertical indices and the query scale; the two scales of the key head; the blocks of
    queries, keys and values. -/
def outPieces (arg13 : Memref sig .tc .vmem S128x640 .bf16) (arg14 arg15 : Memref sig .tc .vmem S640x128 .f32)
    (scnt vcnt : Fin 5 → BitVec 32) (soff : Fin 5 → IVec S1x1x1x180 32) (vidx : Fin 5 → IVec S1x1x1x100 32)
    (qs : Fin 5 → F .f32) (ks vs : F .f32)
    (q : Fin 5 → Fin 5 → Vec F S1x128x128 .fp8e4m3) (k : (qb : Fin 5) → Vec F ⟨3, ![1, nk qb, 128]⟩ .fp8e4m3)
    (v : Fin 5 → Vec F S1x128x128 .fp8e4m3) : List (View.Piece (Elt F) S1x640x640 .bf16) :=
  (List.finRange 5).reverse.flatMap fun h => (List.finRange 5).reverse.map fun qb =>
    ⟨Rect.unit ![0, 128 * qb.val, 128 * h.val] S1x128x128.size (inb_out h qb),
      tile (nk qb)
        (weights (nk qb) (clipped (nk qb) (q h qb) (k qb)
          (arg14.view.readCov (upTo (fun h => tabPieces (slashCodes (soff h) (scnt h))) h.val h.isLt)
            (Rect.unit (s := S640x128) ![512 - 128 * qb.val, 0] (⟨2, ![nk qb, 128]⟩ : Shape).size (inb_tab qb)).toLoadRect)
          (arg15.view.readCov (upTo (fun h => vcolPieces (verticalCodes (vidx h) (vcnt h))) h.val h.isLt)
            (Rect.unit (s := S640x128) ![0, 0] (⟨2, ![nk qb, 128]⟩ : Shape).size (inb_vcol qb)).toLoadRect)
          (Scalar.mulf (Scalar.mulf (Scalar.mulf (qs h) ks) (Scalar.ofBits .f32 0x3DB504F3#32))
            (Named.named κ "log2e" 0x3FB8AA3B#32))))
        (arg13.view.readCov (vtPieces v)
          (Rect.unit (s := S128x640) ![0, 0] (⟨2, ![128, nk qb]⟩ : Shape).size (inb_vt qb)).toLoadRect)
        vs⟩

theorem pos_one : 0 < S1.numel := by decide

section Run

variable (c : Dev nD) (i : grid0.Coords) (arg2 : Memref sig .tc .smem S120 .i32) (harg2 : arg2.IsWhole) (arg3 : Memref sig .tc .smem S120 .i32) (harg3 : arg3.IsWhole) (arg4 : Memref sig .tc .smem S120 .f32) (harg4 : arg4.IsWhole) (arg5 : Memref sig .tc .smem S24 .f32) (harg5 : arg5.IsWhole) (arg6 : Memref sig .tc .smem S24 .f32) (harg6 : arg6.IsWhole) (arg7 : Memref sig .tc .vmem S1x640x640 .fp8e4m3) (harg7 : arg7.IsWhole) (arg8 : Memref sig .tc .vmem S1x640x128 .fp8e4m3) (harg8 : arg8.IsWhole) (arg9 : Memref sig .tc .vmem S1x640x128 .fp8e4m3) (harg9 : arg9.IsWhole) (arg10 : Memref sig .tc .vmem S1x1x5x100 .i32) (harg10 : arg10.IsWhole) (arg11 : Memref sig .tc .vmem S1x1x5x180 .i32) (harg11 : arg11.IsWhole) (arg12 : Memref sig .tc .vmem S1x640x640 .bf16) (harg12 : arg12.IsWhole) (arg13 : Memref sig .tc .vmem S128x640 .bf16) (harg13 : arg13.IsWhole) (arg14 : Memref sig .tc .vmem S640x128 .f32) (harg14 : arg14.IsWhole) (arg15 : Memref sig .tc .vmem S640x128 .f32) (harg15 : arg15.IsWhole)
    (x0 : Vec F S120 .i32) (x1 : Vec F S120 .i32) (x2 : Vec F S120 .f32) (x3 : Vec F S24 .f32) (x4 : Vec F S24 .f32) (x5 : Vec F S1x640x640 .fp8e4m3) (x6 : Vec F S1x640x128 .fp8e4m3) (x7 : Vec F S1x640x128 .fp8e4m3) (x8 : Vec F S1x1x5x100 .i32) (x9 : Vec F S1x1x5x180 .i32)

theorem pieces_eq : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1 =
    outPieces arg13 arg14 arg15
      (fun h => View.readAt (Elt F) arg3.view (Rect.unit (s := S120) (k0_off1 i (BitVec.ofNat 32 h.val)) S1.size (k0_off1_inb i h)).toLoadRect (harg3.unread x1) (Shape.Idx.first (s := S1) pos_one))
      (fun h => View.readAt (Elt F) arg2.view (Rect.unit (s := S120) (k0_off1 i (BitVec.ofNat 32 h.val)) S1.size (k0_off1_inb i h)).toLoadRect (harg2.unread x0) (Shape.Idx.first (s := S1) pos_one))
      (fun h => View.readAt (Elt F) arg11.view (Rect.unit (s := S1x1x5x180) ![0, 0, h.val, 0] S1x1x1x180.size (inb_soff h)).toLoadRect (harg11.unread x9))
      (fun h => View.readAt (Elt F) arg10.view (Rect.unit (s := S1x1x5x100) ![0, 0, h.val, 0] S1x1x1x100.size (inb_vidx h)).toLoadRect (harg10.unread x8))
      (fun h => View.readAt (Elt F) arg4.view (Rect.unit (s := S120) (k0_off1 i (BitVec.ofNat 32 h.val)) S1.size (k0_off1_inb i h)).toLoadRect (harg4.unread x2) (Shape.Idx.first (s := S1) pos_one))
      (View.readAt (Elt F) arg5.view (Rect.unit (s := S24) (k0_off2 i) S1.size (k0_off2_inb i)).toLoadRect (harg5.unread x3) (Shape.Idx.first (s := S1) pos_one))
      (View.readAt (Elt F) arg6.view (Rect.unit (s := S24) (k0_off2 i) S1.size (k0_off2_inb i)).toLoadRect (harg6.unread x4) (Shape.Idx.first (s := S1) pos_one))
      (fun h qb => View.readAt (Elt F) arg7.view (Rect.unit (s := S1x640x640) ![0, 128 * qb.val, 128 * h.val] S1x128x128.size (inb_out h qb)).toLoadRect (harg7.unread x5))
      (fun qb => View.readAt (Elt F) arg8.view (Rect.unit (s := S1x640x128) ![0, 0, 0] (⟨3, ![1, nk qb, 128]⟩ : Shape).size (inb_k qb)).toLoadRect (harg8.unread x6))
      (fun a => View.readAt (Elt F) arg9.view (Rect.unit (s := S1x640x128) ![0, 128 * a.val, 0] S1x128x128.size (inb_v a)).toLoadRect (harg9.unread x7)) := by
  sl_kernel_rfl

end Run

end Cert.KernelIdeal.Hand

end
-- ==== Proof.Spec.lean ====
/- Softmax attention of one query over 640 keys on the extended reals, and why weighing by powers of two over the keys
   that are not in the future gives the same. -/
module

public import Idealize.ShloMosaic.PureOps.Ideal.Laws
public import Idealize.ShloMosaic.Lib.Pointwise

@[expose] public section

noncomputable section

namespace Cert.Attention

open Idealize.ShloMosaic

/-- `1 / log 2`: a power of two of `x * rate` is the exponential of `x`. -/
def rate : EReal := (((Real.log 2)⁻¹ : ℝ) : EReal)

/-- The clip of a key that is not listed, in powers of two: `-2^120`. -/
def clipTwo : EReal := Ideal.ofBits .f32 0xFB800000#32

/-- The clip of a key that is not listed: `-2^120 log 2`. -/
def clip : EReal := clipTwo * Ideal.log (Ideal.ofBits .f32 0x40000000#32)

/-- The clipped score of a key: its score where it is listed, at most `clip` where it is not, `-∞` in the future. -/
def clippedScore (causal listed : Prop) [Decidable causal] [Decidable listed] (s : EReal) : EReal :=
  if causal then (if listed then s else min s clip) else ⊥

/-- The weight of each key. -/
def weigh (t : Fin 640 → EReal) (k : Fin 640) : EReal := Ideal.exp (t k - Finset.univ.sup t)

/-- The mean of the values under the weights, times the values' scale. -/
def attend (t v : Fin 640 → EReal) (vs : EReal) : EReal :=
  (∑ k, weigh t k * v k) * Ideal.div vs (∑ k, weigh t k)

theorem clipTwo_eq : clipTwo = ((-(2 ^ 120) : ℝ) : EReal) := by
  unfold clipTwo
  simp [Ideal.ofBits, Ideal.ieee, -EReal.coe_mul, -EReal.coe_neg, -EReal.coe_pow]; norm_num

theorem two_eq : Ideal.ofBits .f32 0x40000000#32 = ((2 : ℝ) : EReal) := by
  simp [Ideal.ofBits, Ideal.ieee, -EReal.coe_mul, -EReal.coe_neg, -EReal.coe_pow]; norm_num

theorem log_two_pos : 0 < Real.log 2 := Real.log_pos (by norm_num)

theorem rate_pos : 0 < rate := by
  unfold rate
  exact EReal.coe_pos.mpr (inv_pos.mpr log_two_pos)

theorem clip_rate : clip * rate = clipTwo := by
  unfold clip rate
  rw [clipTwo_eq, two_eq]
  have : Ideal.log ((2 : ℝ) : EReal) = ((Real.log 2 : ℝ) : EReal) := by
    show (if (2 : ℝ) ≤ 0 then (⊥ : EReal) else ((Real.log 2 : ℝ) : EReal)) = _
    rw [if_neg (by norm_num)]
  rw [this, ← EReal.coe_mul, ← EReal.coe_mul, mul_assoc, mul_inv_cancel₀ log_two_pos.ne', mul_one]

theorem rate_mono : Monotone fun x : EReal => x * rate :=
  fun _ _ h => mul_le_mul_of_nonneg_right h rate_pos.le

theorem bot_rate : (⊥ : EReal) * rate = ⊥ := EReal.bot_mul_of_pos rate_pos

theorem top_rate : (⊤ : EReal) * rate = ⊤ := EReal.top_mul_of_pos rate_pos

theorem min_rate (x y : EReal) : min x y * rate = min (x * rate) (y * rate) := rate_mono.map_min

/-- A power of two of a difference of scaled scores is the exponential of the difference of the scores. -/
theorem exp2_rate (x y : EReal) : Ideal.exp2 (x * rate - y * rate) = Ideal.exp (x - y) := by
  induction x with
  | bot => rw [bot_rate, EReal.bot_sub, EReal.bot_sub]; rfl
  | top =>
    rw [top_rate]
    induction y with
    | bot => rw [bot_rate]; rfl
    | top => rw [top_rate]; rfl
    | coe y =>
      unfold rate
      rw [← EReal.coe_mul, EReal.top_sub_coe, EReal.top_sub_coe]; rfl
  | coe x =>
    induction y with
    | bot => rw [bot_rate]; unfold rate; rw [← EReal.coe_mul, EReal.coe_sub_bot, EReal.coe_sub_bot]; rfl
    | top => rw [top_rate, EReal.sub_top, EReal.sub_top]; rfl
    | coe y =>
      unfold rate
      rw [← EReal.coe_mul, ← EReal.coe_mul, ← EReal.coe_sub, ← EReal.coe_sub]
      show ((Real.rpow 2 _ : ℝ) : EReal) = ((Real.exp _ : ℝ) : EReal)
      congr 1
      rw [← sub_mul]
      show (2 : ℝ) ^ ((x - y) * (Real.log 2)⁻¹) = _
      rw [Real.rpow_def_of_pos (by norm_num), mul_comm, mul_assoc, inv_mul_cancel₀ log_two_pos.ne', mul_one]

/-- The largest of scaled scores over the first `n` keys is the scaled largest score, where the others are in the future. -/
theorem sup_rate {n : Nat} (hn : n ≤ 640) (t : Fin 640 → EReal) (ht : ∀ k : Fin 640, n ≤ k.val → t k = ⊥) :
    (Finset.univ.sup fun k : Fin n => t (Fin.castLE hn k) * rate) = Finset.univ.sup t * rate := by
  apply le_antisymm
  · exact Finset.sup_le fun k _ => rate_mono (Finset.le_sup (f := t) (Finset.mem_univ _))
  · rw [Finset.comp_sup_eq_sup_comp_of_is_total (fun x : EReal => x * rate) rate_mono bot_rate]
    refine Finset.sup_le fun k _ => ?_
    by_cases hk : k.val < n
    · exact Finset.le_sup (f := fun k : Fin n => t (Fin.castLE hn k) * rate) (Finset.mem_univ (⟨k.val, hk⟩ : Fin n))
    · show t k * rate ≤ _
      rw [ht k (Nat.le_of_not_lt hk), bot_rate]; exact bot_le

/-- A sum over all the keys is the sum over the first `n`, where the others contribute nothing. -/
theorem sum_castLE {n : Nat} (hn : n ≤ 640) (f : Fin 640 → EReal) (hf : ∀ k : Fin 640, n ≤ k.val → f k = 0) :
    ∑ k : Fin n, f (Fin.castLE hn k) = ∑ k, f k := by
  rw [← Finset.sum_subset (Finset.subset_univ (Finset.univ.map (Fin.castLEEmb hn)))]
  · rw [Finset.sum_map]; rfl
  · intro k _ hk
    refine hf k ?_
    by_contra h
    exact hk (Finset.mem_map.mpr ⟨⟨k.val, Nat.lt_of_not_le h⟩, Finset.mem_univ _, rfl⟩)

theorem weigh_future (t : Fin 640 → EReal) (k : Fin 640) (h : t k = ⊥) : weigh t k = 0 := by
  unfold weigh; rw [h, EReal.bot_sub]; rfl

/-- The weights by powers of two of the scaled scores of the first `n` keys. -/
def weighTwo {n : Nat} (u : Fin n → EReal) (k : Fin n) : EReal := Ideal.exp2 (u k - Finset.univ.sup u)

/-- The weighted mean by powers of two over the first `n` keys is attention over all. -/
theorem attend_eq {n : Nat} (hn : n ≤ 640) (t v : Fin 640 → EReal) (vs : EReal) (ht : ∀ k : Fin 640, n ≤ k.val → t k = ⊥)
    (u w : Fin n → EReal) (hu : ∀ k, u k = t (Fin.castLE hn k) * rate) (hw : ∀ k, w k = v (Fin.castLE hn k)) :
    (∑ k, w k * weighTwo u k) * Ideal.div vs (∑ k, weighTwo u k) = attend t v vs := by
  obtain rfl : u = fun k => t (Fin.castLE hn k) * rate := funext hu
  have hk : ∀ k : Fin n, weighTwo (fun k => t (Fin.castLE hn k) * rate) k = weigh t (Fin.castLE hn k) := fun k => by
    unfold weighTwo weigh
    rw [sup_rate hn t ht, exp2_rate]
  unfold attend
  simp only [hk, hw]
  rw [sum_castLE hn (weigh t) (fun k h => weigh_future t k (ht k h)),
    ← sum_castLE hn (fun k => weigh t k * v k) (fun k h => by show weigh t k * v k = 0; rw [weigh_future t k (ht k h), zero_mul])]
  simp only [mul_comm (v _)]

/-- Clipping by the bias: `⊤` where the key is listed, `clipTwo` where it is not, `⊥` in the future. -/
theorem min_bias (causal listed : Prop) [Decidable causal] [Decidable listed] (s b : EReal)
    (hf : ¬ causal → b = ⊥) (hl : causal → listed → b = ⊤) (hn : causal → ¬ listed → b = clipTwo) :
    min (s * rate) b = clippedScore causal listed s * rate := by
  unfold clippedScore
  by_cases hc : causal
  · rw [if_pos hc]
    by_cases h : listed
    · rw [if_pos h, hl hc h, min_top_right]
    · rw [if_neg h, hn hc h, min_rate, clip_rate]
  · rw [if_neg hc, hf hc, bot_rate, min_bot_right]

/-- `x` is among the first `cnt` entries of a row. -/
def Listed {N : Nat} (row : Fin N → BitVec 32) (cnt : BitVec 32) (x : Nat) : Prop :=
  ∃ n : Fin N, IntOp.cmpi .slt (BitVec.ofNat 32 n.val) cnt = 1#1 ∧ row n = BitVec.ofNat 32 x

open Classical in
/-- One entry of the output: query `i` of a head, whose row of codes is `q` and whose listed offsets and keys are `soff`
    and `vidx` up to their counts, over the keys and values of its key head. -/
def attention (k v : Fin 640 → Fin 128 → EReal) (q : Fin 128 → EReal) (mult vs : EReal) (soff : Fin 180 → BitVec 32)
    (scnt : BitVec 32) (vidx : Fin 100 → BitVec 32) (vcnt : BitVec 32) (i : Nat) (d : Fin 128) : EReal :=
  attend
    (fun key => clippedScore (key.val ≤ i) (Listed soff scnt (i - key.val) ∨ Listed vidx vcnt key.val)
      ((∑ d, k key d * q d) * mult))
    (fun key => v key d) vs

/-- The whole output: entry (b, i, 128 h + d) is query `i` of head `h` of batch entry `b`, coordinate `d`. -/
def result (q : (⟨4, ![3, 640, 40, 128]⟩ : Shape).Idx → EReal) (qs : (⟨2, ![3, 40]⟩ : Shape).Idx → EReal)
    (k : (⟨4, ![3, 640, 8, 128]⟩ : Shape).Idx → EReal) (ks : (⟨2, ![3, 8]⟩ : Shape).Idx → EReal)
    (v : (⟨4, ![3, 640, 8, 128]⟩ : Shape).Idx → EReal) (vs : (⟨2, ![3, 8]⟩ : Shape).Idx → EReal)
    (vidx : (⟨3, ![3, 40, 100]⟩ : Shape).Idx → BitVec 32) (vcnt : (⟨2, ![3, 40]⟩ : Shape).Idx → BitVec 32)
    (soff : (⟨3, ![3, 40, 180]⟩ : Shape).Idx → BitVec 32) (scnt : (⟨2, ![3, 40]⟩ : Shape).Idx → BitVec 32)
    (b : Fin 3) (i : Fin 640) (g : Fin 8) (h : Fin 5) (d : Fin 128) : EReal :=
  attention (fun key d => k (ix4 b key g d)) (fun key d => v (ix4 b key g d))
    (fun d => q (ix4 b i (⟨5 * g.val + h.val, by omega⟩ : Fin 40) d))
    (qs (ix2 b (⟨5 * g.val + h.val, by omega⟩ : Fin 40)) * ks (ix2 b g) * Ideal.ofBits .f32 0x3DB504F3#32) (vs (ix2 b g))
    (fun n => soff (ix3 b (⟨5 * g.val + h.val, by omega⟩ : Fin 40) n)) (scnt (ix2 b (⟨5 * g.val + h.val, by omega⟩ : Fin 40)))
    (fun n => vidx (ix3 b (⟨5 * g.val + h.val, by omega⟩ : Fin 40) n)) (vcnt (ix2 b (⟨5 * g.val + h.val, by omega⟩ : Fin 40)))
    i.val d

end Cert.Attention
-- ==== Proof.Codes.lean ====
/- Where the two tables of codes hold the unclipped code: at the listed offsets, at the listed keys. -/
module

public import proofs.«01_k».proof.Proof.Body
public import proofs.«01_k».proof.Proof.Spec
public import Idealize.ShloMosaic.Lib.Pointwise
public import Idealize.ShloMosaic.Lib.WordCmp

@[expose] public section

set_option maxRecDepth 16384

noncomputable section

namespace Cert.KernelIdeal.Hand

open Idealize.ShloMosaic Idealize.ShloMosaic.TcCoe Idealize.ShloMosaic.Tactic Cert.KernelIdeal.Gen Cert.Attention

theorem word_parts : ∀ a : Fin 8, ∀ l : Fin 128,
    (BitVec.ofNat 32 (128 * a.val + l.val)).sshiftRight 7 = BitVec.ofNat 32 a.val
      ∧ BitVec.ofNat 32 (128 * a.val + l.val) &&& 127#32 = BitVec.ofNat 32 l.val := by
  decide +kernel

/-- A word is given by its upper 25 bits and its lower 7. -/
theorem word_inj (x y : BitVec 32) (h : x.sshiftRight 7 = y.sshiftRight 7) (h' : x &&& 127#32 = y &&& 127#32) : x = y := by
  apply BitVec.eq_of_getLsbD_eq
  intro i hi
  by_cases h7 : i < 7
  · have := congrArg (fun z : BitVec 32 => z.getLsbD i) h'
    simp only [BitVec.getLsbD_and] at this
    have e : ∀ j : Fin 7, (127#32).getLsbD j.val = true := by decide
    rw [e ⟨i, h7⟩, Bool.and_true, Bool.and_true] at this
    exact this
  · have := congrArg (fun z : BitVec 32 => z.getLsbD (i - 7)) h
    simp only [BitVec.getLsbD_sshiftRight] at this
    have e : 7 + (i - 7) = i := by omega
    have e1 : ¬ 32 ≤ i - 7 := by omega
    simpa [e, hi, e1] using this

theorem word_eq_iff (x : BitVec 32) (a : Fin 8) (l : Fin 128) :
    (BitVec.ofNat 32 a.val = x.sshiftRight 7 ∧ BitVec.ofNat 32 l.val = x &&& 127#32) ↔ x = BitVec.ofNat 32 (128 * a.val + l.val) := by
  constructor
  · rintro ⟨h, h'⟩
    exact word_inj _ _ (h.symm.trans (word_parts a l).1.symm) (h'.symm.trans (word_parts a l).2.symm)
  · rintro rfl
    exact ⟨(word_parts a l).1.symm, (word_parts a l).2.symm⟩

theorem half_lt_count {N : Nat} (P : Fin N → Prop) [DecidablePred P] :
    ((1 / 2 : ℝ) : EReal) < ∑ n, (if P n then (1 : EReal) else 0) ↔ ∃ n, P n := by
  constructor
  · intro h
    by_contra hn
    have : ∑ n, (if P n then (1 : EReal) else 0) = 0 := Finset.sum_eq_zero fun n _ => if_neg fun hp => hn ⟨n, hp⟩
    rw [this] at h
    exact absurd (EReal.coe_lt_coe_iff.mp (h : ((1 / 2 : ℝ) : EReal) < ((0 : ℝ) : EReal))) (by norm_num)
  · rintro ⟨n, hn⟩
    have h1 : (1 : EReal) ≤ ∑ n, (if P n then (1 : EReal) else 0) := by
      have := Finset.single_le_sum (f := fun n => if P n then (1 : EReal) else 0) (fun m _ => by split <;> simp) (Finset.mem_univ n)
      simpa [hn] using this
    exact lt_of_lt_of_le (EReal.coe_lt_coe_iff.mpr (by norm_num : (1 / 2 : ℝ) < 1)) h1

/-- The entry an index keeps: itself among the first `cnt`, `-1` after them. -/
abbrev kept (c : BitVec 1) (x : BitVec 32) : BitVec 32 := Scalar.select c x 4294967295#32

theorem kept_eq_iff (c : BitVec 1) (x : BitVec 32) (a : Fin 8) (l : Fin 128) :
    kept c x = BitVec.ofNat 32 (128 * a.val + l.val) ↔ c = 1#1 ∧ x = BitVec.ofNat 32 (128 * a.val + l.val) := by
  have ha := a.isLt
  have hl := l.isLt
  unfold kept Scalar.select
  split
  · simp_all
  · rename_i h
    constructor
    · intro e
      have t : (BitVec.ofNat 32 (128 * a.val + l.val)).toNat = 128 * a.val + l.val := by
        rw [BitVec.toNat_ofNat]; omega
      have : 4294967295 = (BitVec.ofNat 32 (128 * a.val + l.val)).toNat := congrArg BitVec.toNat e
      omega
    · rintro ⟨h', _⟩
      exact absurd h' h

theorem cmpi_eq_iff (x y : BitVec 32) : IntOp.cmpi .eq x y = 1#1 ↔ x = y := by
  show BitVec.ofBool (x == y) = 1#1 ↔ x = y
  by_cases h : x = y
  · simp [h]
  · rw [beq_false_of_ne h]; simp [h]

theorem hit_iff (c : BitVec 1) (x : BitVec 32) (a : Fin 8) (l : Fin 128) :
    (IntOp.cmpi .eq (BitVec.ofNat 32 a.val) (IntOp.shrsi .vector (kept c x) 7#32) = 1#1
      ∧ IntOp.cmpi .eq (BitVec.ofNat 32 l.val) (IntOp.andi (kept c x) 127#32) = 1#1)
      ↔ (c = 1#1 ∧ x = BitVec.ofNat 32 (128 * a.val + l.val)) := by
  rw [cmpi_eq_iff, cmpi_eq_iff, ← kept_eq_iff, ← word_eq_iff]
  rfl

theorem select_select (c d : BitVec 1) : Scalar.select c (Scalar.select d (1 : EReal) 0) 0 = if d = 1#1 ∧ c = 1#1 then 1 else 0 := by
  unfold Scalar.select
  by_cases h : c = 1#1 <;> by_cases h' : d = 1#1 <;> simp [h, h']

theorem half_eq : Ideal.ofBits .f32 0x3F000000#32 = ((1 / 2 : ℝ) : EReal) := by
  simp [Ideal.ofBits, Ideal.ieee, -EReal.coe_mul]; norm_num

open Classical in
theorem slashCodes_apply (row : IVec S1x1x1x180 32) (cnt : BitVec 32) (a : Fin 8) (l : Fin 128) :
    slashCodes (F := Ideal) row cnt (ix2 a l)
      = if Listed (fun n : Fin 180 => row (ix4 0 0 0 n)) cnt (128 * a.val + l.val) then ⊤ else clipTwo := by
  unfold slashCodes k0_pay11 k0_pay10 k0_pay9 k0_pay8
  pointwise
  simp only [select_select]
  rw [show Named.named (F := Ideal) (φ := .f32) κ "slash_bias" 0x7C400000#32 = ⊤ from IdealRules.named_const.ideal_named_scalar _ _ _ _ rfl,
    half_eq]
  refine if_congr ((half_lt_count _).trans (exists_congr fun n => ?_)) rfl rfl
  exact hit_iff _ _ a l

open Classical in
theorem verticalCodes_apply (row : IVec S1x1x1x100 32) (cnt : BitVec 32) (a : Fin 8) (l : Fin 128) :
    verticalCodes (F := Ideal) row cnt (ix2 l a)
      = if Listed (fun n : Fin 100 => row (ix4 0 0 0 n)) cnt (128 * a.val + l.val) then ⊤ else 0 := by
  unfold verticalCodes k0_pay177 k0_pay176
  pointwise
  simp only [select_select]
  rw [show Named.named (F := Ideal) (φ := .f32) κ "vertical_bias" 0x7C000000#32 = ⊤ from IdealRules.named_const.ideal_named_scalar _ _ _ _ rfl,
    half_eq]
  refine if_congr ((half_lt_count _).trans (exists_congr fun n => ?_)) rfl rfl
  exact and_comm.trans (hit_iff _ _ a l)

end Cert.KernelIdeal.Hand
-- ==== Proof.Band.lean ====
/- The bias table and the column of vertical codes, read at an index: what the 80 shifted and turned bands leave at row
   `512 - 128 qb + k`, lane `l` is the slash code of the distance `128 qb + l - k` from the key to the query. -/
module

public import proofs.«01_k».proof.Proof.Body
public import Idealize.ShloMosaic.Lib.Pointwise
public import Idealize.ShloMosaic.Lib.WordCmp
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic Cert.KernelIdeal.Gen

variable {F : FTy → Type} [FloatOps F] [Named F]

/-- The future's code. -/
abbrev future : F .f32 := Named.named κ "future_bias" 0xFC400000#32

/-- Entry `l` of row `r < 128` of band `a`. -/
def bandAt (codes : FVec F S8x128 .f32) (a : Fin 5) (r : Nat) (l : Fin 128) : F .f32 :=
  if r ≤ l.val then codes (ix2 (⟨a.val, by omega⟩ : Fin 8) (⟨l.val - r, by omega⟩ : Fin 128))
  else if a.val = 0 then future
  else codes (ix2 (⟨a.val - 1, by omega⟩ : Fin 8) (⟨(l.val + 128 - r) % 128, by omega⟩ : Fin 128))

theorem turned_apply (codes : FVec F S8x128 .f32) (a : Fin 5) (s : Fin 8) (l : Fin 128) :
    turned codes a (ix2 s l) = codes (ix2 (⟨a.val, by omega⟩ : Fin 8) (⟨(l.val + 128 - s.val) % 128, by omega⟩ : Fin 128)) := by
  pointwise [turned]
  have : s.val % 128 = s.val := Nat.mod_eq_of_lt (by omega)
  simp only [this]

/-- A choice by an order of two small numbers. -/
theorem select_sge {α : Type} (a b : Nat) (ha : a < 128) (hb : b < 128) (x y : α) :
    Scalar.select (IntOp.cmpi .sge (BitVec.ofNat 32 a) (BitVec.ofNat 32 b)) x y = if b ≤ a then x else y := by
  rw [WordCmp.cmpi_sge_ofNat (by omega) (by omega)]
  by_cases h : b ≤ a
  · rw [if_pos h, decide_eq_true h]; rfl
  · rw [if_neg h, decide_eq_false h]; rfl

theorem before_apply (f : Fin 5 → FVec F S8x128 .f32) (a : Fin 5) (i : S8x128.Idx) :
    before f a i = if h : a.val = 0 then future else f ⟨a.val - 1, by omega⟩ i := by
  obtain ⟨a, ha⟩ := a
  cases a with
  | zero => rfl
  | succ k => rw [dif_neg (by simp)]; rfl

theorem base_apply (codes : FVec F S8x128 .f32) (a : Fin 5) (s : Fin 8) (l : Fin 128) :
    base codes a (ix2 s l) = bandAt codes a s.val l := by
  pointwise [base]
  rw [select_sge _ _ (by omega) (by omega), before_apply]
  unfold bandAt
  by_cases h : s.val ≤ l.val
  · rw [if_pos h, if_pos h, turned_apply]
    have e : (l.val + 128 - s.val) % 128 = l.val - s.val := by omega
    simp only [e]
  · rw [if_neg h, if_neg h]
    by_cases h0 : a.val = 0
    · rw [dif_pos h0, if_pos h0]
    · rw [dif_neg h0, if_neg h0, turned_apply]

theorem shifted_apply (codes : FVec F S8x128 .f32) (j : Fin 16) (a : Fin 5) (s : Fin 8) (l : Fin 128) :
    shifted codes j a (ix2 s l) = base codes a (ix2 s (⟨(l.val + 128 - 8 * j.val) % 128, by omega⟩ : Fin 128)) := by
  pointwise [shifted]
  have e : (BitVec.ofNat 32 (8 * j.val)).toNat % 128 = 8 * j.val := by
    rw [BitVec.toNat_ofNat, Nat.mod_eq_of_lt (by omega), Nat.mod_eq_of_lt (by omega)]
  simp only [e]

/-- A band is what its index says. -/
theorem band_apply (codes : FVec F S8x128 .f32) (j : Fin 16) (a : Fin 5) (s : Fin 8) (l : Fin 128) :
    band codes j a (ix2 s l) = bandAt codes a (8 * j.val + s.val) l := by
  obtain ⟨j, hj⟩ := j
  cases j with
  | zero => rw [show band codes ⟨0, hj⟩ a = base codes a from rfl, base_apply]; simp only [Nat.mul_zero, Nat.zero_add]
  | succ j =>
    pointwise [band]
    rw [select_sge _ _ (by omega) (by omega), before_apply, shifted_apply, base_apply]
    have hs := s.isLt
    have hl := l.isLt
    by_cases h : 8 * (j + 1) ≤ l.val
    · rw [if_pos h]
      have e : (l.val + 128 - 8 * (j + 1)) % 128 = l.val - 8 * (j + 1) := by omega
      simp only [e, bandAt]
      by_cases h' : s.val ≤ l.val - 8 * (j + 1)
      · have h4 : 8 * (j + 1) + s.val ≤ l.val := by omega
        rw [if_pos h', if_pos h4]
        have e : l.val - 8 * (j + 1) - s.val = l.val - (8 * (j + 1) + s.val) := by omega
        simp only [e]
      · have h4 : ¬ (8 * (j + 1) + s.val ≤ l.val) := by omega
        rw [if_neg h', if_neg h4]
        have e : l.val - 8 * (j + 1) + 128 - s.val = l.val + 128 - (8 * (j + 1) + s.val) := by omega
        simp only [e]
    · rw [if_neg h]
      have h2 : ¬ (8 * (j + 1) + s.val ≤ l.val) := by omega
      by_cases h0 : a.val = 0
      · rw [dif_pos h0]; unfold bandAt; rw [if_neg h2, if_pos h0]
      · rw [dif_neg h0, shifted_apply, base_apply]
        have e : (l.val + 128 - 8 * (j + 1)) % 128 = l.val + 128 - 8 * (j + 1) := by omega
        have e2 : l.val + 128 - 8 * (j + 1) - s.val = (l.val + 128 - (8 * (j + 1) + s.val)) % 128 := by omega
        have h3 : s.val ≤ l.val + 128 - 8 * (j + 1) := by omega
        simp only [e, bandAt, if_neg h2, if_neg h0, if_pos h3, e2]

/-- The last of the lists that covers an index decides what it reads. -/
theorem canon_append {S : Shape} {e : EltTy} (A B : List (View.Piece (Elt F) S e)) (y : S.Idx) (h : ∃ p ∈ A, y ∈ p.1.set) :
    View.canon (A ++ B) y = View.canon A y := by
  induction A with
  | nil => obtain ⟨p, hp, _⟩ := h; exact absurd hp List.not_mem_nil
  | cons p A ih =>
    rw [List.cons_append]
    by_cases hm : y ∈ p.1.set
    · obtain ⟨x, rfl⟩ := p.1.exists_idx_of_mem hm
      rw [show p.1.idx x = p.1.emb x from rfl]
      exact (View.canon_cons_emb p.1 p.2 (A ++ B) x).trans (View.canon_cons_emb p.1 p.2 A x).symm
    · rw [View.canon_cons_of_not_mem _ _ hm, View.canon_cons_of_not_mem _ _ hm]
      obtain ⟨q, hq, hyq⟩ := h
      rcases List.mem_cons.mp hq with rfl | hq'
      · exact absurd hyq hm
      · exact ih ⟨q, hq', hyq⟩

theorem canon_upTo {S : Shape} {e : EltTy} (f : Fin 5 → List (View.Piece (Elt F) S e)) (h : Fin 5) (y : S.Idx)
    (hy : ∃ p ∈ f h, y ∈ p.1.set) : View.canon (upTo f h.val h.isLt) y = View.canon (f h) y := by
  obtain ⟨h, hh⟩ := h
  cases h with
  | zero => rfl
  | succ k => exact canon_append _ _ y hy

theorem covers_upTo {S : Shape} {e : EltTy} (f : Fin 5 → List (View.Piece (Elt F) S e)) (h : Fin 5) (y : S.Idx)
    (hy : ∃ p ∈ f h, y ∈ p.1.set) : ∃ p ∈ upTo f h.val h.isLt, y ∈ p.1.set := by
  obtain ⟨h, hh⟩ := h
  obtain ⟨p, hp, hm⟩ := hy
  refine ⟨p, ?_, hm⟩
  cases h with
  | zero => exact hp
  | succ k => exact List.mem_append_left _ hp

/-- The slash code of the distance from key `k` to query `i`, the future's where the key is past the query. -/
def slashAt (codes : FVec F S8x128 .f32) (k i : Nat) : F .f32 :=
  if k ≤ i then codes (ix2 (⟨(i - k) / 128 % 8, by omega⟩ : Fin 8) (⟨(i - k) % 128, by omega⟩ : Fin 128)) else future

theorem bandAt_eq (codes : FVec F S8x128 .f32) (qb a : Fin 5) (r : Nat) (hr : r < 128) (l : Fin 128) (k : Nat)
    (hk : k + 128 * a.val = 128 * qb.val + r) : bandAt codes a r l = slashAt codes k (128 * qb.val + l.val) := by
  have hl := l.isLt
  unfold bandAt slashAt
  by_cases h : r ≤ l.val
  · rw [if_pos h, if_pos (by omega)]
    have e1 : (128 * qb.val + l.val - k) / 128 % 8 = a.val := by omega
    have e2 : (128 * qb.val + l.val - k) % 128 = l.val - r := by omega
    simp only [e1, e2]
  · rw [if_neg h]
    by_cases h0 : a.val = 0
    · rw [if_pos h0, if_neg (by omega)]
    · rw [if_neg h0, if_pos (by omega)]
      have e1 : (128 * qb.val + l.val - k) / 128 % 8 = a.val - 1 := by omega
      have e2 : (128 * qb.val + l.val - k) % 128 = (l.val + 128 - r) % 128 := by omega
      simp only [e1, e2]

theorem tab_covers (codes : FVec F S8x128 .f32) (R : Fin 640) (l : Fin 128) :
    ∃ p ∈ tabPieces codes, (ix2 R l : S640x128.Idx) ∈ p.1.set := by
  have hR := R.isLt
  have hl := l.isLt
  refine ⟨_, List.mem_flatMap.mpr ⟨(⟨R.val % 128 / 8, by omega⟩ : Fin 16), List.mem_reverse.mpr (List.mem_finRange _),
    List.mem_map.mpr ⟨(⟨4 - R.val / 128, by omega⟩ : Fin 5), List.mem_reverse.mpr (List.mem_finRange _), rfl⟩⟩, ?_⟩
  refine (Rect.mem_set_unit (inb := inb_band _ _)).mpr fun x => ?_
  fin_cases x
  · show 512 - 128 * (4 - R.val / 128) + 8 * (R.val % 128 / 8) ≤ R.val ∧ R.val < 512 - 128 * (4 - R.val / 128) + 8 * (R.val % 128 / 8) + 8
    omega
  · show 0 ≤ l.val ∧ l.val < 0 + 128
    omega

/-- The table at a row and a lane. -/
theorem tab_apply (codes : FVec F S8x128 .f32) (R : Fin 640) (l : Fin 128) :
    View.canon (tabPieces codes) (ix2 R l : S640x128.Idx) =
      bandAt codes (⟨4 - R.val / 128, by omega⟩ : Fin 5) (R.val % 128) l := by
  refine View.canon_eq_of_allAt _ _ _ (tab_covers codes R l) ?_
  intro p hp x hx
  obtain ⟨j, _, hp⟩ := List.mem_flatMap.mp hp
  obtain ⟨a, _, rfl⟩ := List.mem_map.mp hp
  obtain ⟨s, l', rfl⟩ : ∃ (s : Fin 8) (l' : Fin 128), x = ix2 s l' := ⟨x 0, x 1, by funext b; fin_cases b <;> rfl⟩
  have h0 : 512 - 128 * a.val + 8 * j.val + 1 * s.val = R.val := congrArg Fin.val (congrFun hx 0)
  have h1 : 0 + 1 * l'.val = l.val := congrArg Fin.val (congrFun hx 1)
  have hs := s.isLt
  have ha := a.isLt
  obtain rfl : l' = l := Fin.ext (by omega)
  show shapeCast S8x128 (band codes j a) shapeCasts_S8x128_S8x128 (ix2 s l') = _
  have e : shapeCast S8x128 (band codes j a) shapeCasts_S8x128_S8x128 (ix2 s l') = band codes j a (ix2 s l') := by pointwise
  rw [e, band_apply]
  have e1 : a = (⟨4 - R.val / 128, by omega⟩ : Fin 5) := Fin.ext (by show a.val = 4 - R.val / 128; omega)
  have e2 : 8 * j.val + s.val = R.val % 128 := by omega
  rw [e2, ← e1]

end Cert.KernelIdeal.Hand

end
-- ==== Proof.Loads.lean ====
/- What the tile of query block `qb` loads from the three scratch buffers, read at an index. -/
module

public import proofs.«01_k».proof.Proof.Band

@[expose] public section

set_option maxRecDepth 16384

noncomputable section

namespace Cert.KernelIdeal.Hand

open Idealize.ShloMosaic Idealize.ShloMosaic.TcCoe Idealize.ShloMosaic.Tactic Cert.KernelIdeal.Gen

variable {F : FTy → Type} [FloatOps F] [Named F]

/-- The bias table under query block `qb`. -/
theorem tabLoad_apply (v : View sig .tc .vmem S640x128 .f32) (codes : Fin 5 → FVec F S8x128 .f32) (h qb : Fin 5)
    (k : Fin (nk qb)) (l : Fin 128) :
    v.readCov (Val := Elt F) (upTo (fun h => tabPieces (codes h)) h.val h.isLt)
        (Rect.unit (s := S640x128) ![512 - 128 * qb.val, 0] (⟨2, ![nk qb, 128]⟩ : Shape).size (inb_tab qb)).toLoadRect (ix2 k l)
      = slashAt (codes h) k.val (128 * qb.val + l.val) := by
  have hk := k.isLt
  have hq := qb.isLt
  have hk' : k.val < 128 * (qb.val + 1) := hk
  have idx : ∀ (k : Fin (nk qb)) (l : Fin 128),
      (Rect.unit (s := S640x128) ![512 - 128 * qb.val, 0] (⟨2, ![nk qb, 128]⟩ : Shape).size (inb_tab qb)).toLoadRect.idx (ix2 k l)
        = (ix2 (⟨512 - 128 * qb.val + k.val, by have : k.val < 128 * (qb.val + 1) := k.isLt; omega⟩ : Fin 640) l : S640x128.Idx) := by
    intro k l
    funext b
    fin_cases b
    · exact Fin.ext (by show 512 - 128 * qb.val + 1 * k.val = 512 - 128 * qb.val + k.val; omega)
    · exact Fin.ext (by show 0 + 1 * l.val = l.val; omega)
  rw [View.readCov_eq_canon]
  · show View.canon (Val := Elt F) _ _ = _
    rw [idx, canon_upTo _ _ _ (tab_covers _ _ _), tab_apply]
    refine bandAt_eq (codes h) qb _ _ (Nat.mod_lt _ (by omega)) l k.val ?_
    show k.val + 128 * (4 - (512 - 128 * qb.val + k.val) / 128) = 128 * qb.val + (512 - 128 * qb.val + k.val) % 128
    omega
  · intro j
    obtain ⟨k, l, rfl⟩ : ∃ (k : Fin (nk qb)) (l : Fin 128), j = ix2 k l := ⟨j 0, j 1, by funext b; fin_cases b <;> rfl⟩
    rw [idx]
    exact covers_upTo _ _ _ (tab_covers _ _ _)

theorem vcol_covers (codes : FVec F S128x8 .f32) (R : Fin 640) (l : Fin 128) :
    ∃ p ∈ vcolPieces codes, (ix2 R l : S640x128.Idx) ∈ p.1.set := by
  have hR := R.isLt
  have hl := l.isLt
  refine ⟨_, List.mem_map.mpr ⟨(⟨R.val / 128, by omega⟩ : Fin 5), List.mem_reverse.mpr (List.mem_finRange _), rfl⟩, ?_⟩
  refine (Rect.mem_set_unit (inb := inb_rows _)).mpr fun x => ?_
  fin_cases x
  · show 128 * (R.val / 128) ≤ R.val ∧ R.val < 128 * (R.val / 128) + 128
    omega
  · show 0 ≤ l.val ∧ l.val < 0 + 128
    omega

/-- The column of vertical codes at a row, the same at every lane. -/
theorem vcol_apply (codes : FVec F S128x8 .f32) (R : Fin 640) (l : Fin 128) :
    View.canon (vcolPieces codes) (ix2 R l : S640x128.Idx) =
      codes (ix2 (⟨R.val % 128, by omega⟩ : Fin 128) (⟨R.val / 128, by omega⟩ : Fin 8)) := by
  refine View.canon_eq_of_allAt _ _ _ (vcol_covers codes R l) ?_
  intro p hp x hx
  obtain ⟨a, _, rfl⟩ := List.mem_map.mp hp
  obtain ⟨s, l', rfl⟩ : ∃ (s : Fin 128) (l' : Fin 128), x = ix2 s l' := ⟨x 0, x 1, by funext b; fin_cases b <;> rfl⟩
  have h0 : 128 * a.val + 1 * s.val = R.val := congrArg Fin.val (congrFun hx 0)
  have hs := s.isLt
  show shapeCast S128x128 (broadcastTo S128x128 (shapeCast S128x1 (extractStridedSlice S128x1 ![0, a.val] codes (slices_vcodes a))
        shapeCasts_S128x1_S128x1) broadcasts_S128x1_S128x128) shapeCasts_S128x128_S128x128 (ix2 s l') = _
  pointwise
  have e1 : R.val % 128 = s.val := by omega
  have e2 : R.val / 128 = a.val := by omega
  simp only [e1, e2]

/-- The column of vertical codes under query block `qb`. -/
theorem vcolLoad_apply (v : View sig .tc .vmem S640x128 .f32) (codes : Fin 5 → FVec F S128x8 .f32) (h qb : Fin 5)
    (k : Fin (nk qb)) (l : Fin 128) :
    v.readCov (Val := Elt F) (upTo (fun h => vcolPieces (codes h)) h.val h.isLt)
        (Rect.unit (s := S640x128) ![0, 0] (⟨2, ![nk qb, 128]⟩ : Shape).size (inb_vcol qb)).toLoadRect (ix2 k l)
      = codes h (ix2 (⟨k.val % 128, by omega⟩ : Fin 128)
          (⟨k.val / 128, by have : k.val < 128 * (qb.val + 1) := k.isLt; omega⟩ : Fin 8)) := by
  have idx : ∀ (k : Fin (nk qb)) (l : Fin 128),
      (Rect.unit (s := S640x128) ![0, 0] (⟨2, ![nk qb, 128]⟩ : Shape).size (inb_vcol qb)).toLoadRect.idx (ix2 k l)
        = (ix2 (⟨k.val, by have : k.val < 128 * (qb.val + 1) := k.isLt; omega⟩ : Fin 640) l : S640x128.Idx) := by
    intro k l
    funext b
    fin_cases b
    · exact Fin.ext (by show 0 + 1 * k.val = k.val; omega)
    · exact Fin.ext (by show 0 + 1 * l.val = l.val; omega)
  rw [View.readCov_eq_canon]
  · show View.canon (Val := Elt F) _ _ = _
    rw [idx, canon_upTo _ _ _ (vcol_covers _ _ _), vcol_apply]
  · intro j
    obtain ⟨k, l, rfl⟩ : ∃ (k : Fin (nk qb)) (l : Fin 128), j = ix2 k l := ⟨j 0, j 1, by funext b; fin_cases b <;> rfl⟩
    rw [idx]
    exact covers_upTo _ _ _ (vcol_covers _ _ _)

theorem vt_covers (x : Fin 5 → Vec F S1x128x128 .fp8e4m3) (d : Fin 128) (R : Fin 640) :
    ∃ p ∈ vtPieces x, (ix2 d R : S128x640.Idx) ∈ p.1.set := by
  have hR := R.isLt
  have hl := d.isLt
  refine ⟨_, List.mem_map.mpr ⟨(⟨R.val / 128, by omega⟩ : Fin 5), List.mem_reverse.mpr (List.mem_finRange _), rfl⟩, ?_⟩
  refine (Rect.mem_set_unit (inb := inb_cols _)).mpr fun x => ?_
  fin_cases x
  · show 0 ≤ d.val ∧ d.val < 0 + 128
    omega
  · show 128 * (R.val / 128) ≤ R.val ∧ R.val < 128 * (R.val / 128) + 128
    omega

/-- The transposed values at a lane of the head and a key. -/
theorem vt_apply (x : Fin 5 → Vec Ideal S1x128x128 .fp8e4m3) (d : Fin 128) (R : Fin 640) :
    View.canon (vtPieces (F := Ideal) x) (ix2 d R : S128x640.Idx) =
      x (⟨R.val / 128, by omega⟩ : Fin 5) (ix3 (0 : Fin 1) (⟨R.val % 128, by omega⟩ : Fin 128) d) := by
  refine View.canon_eq_of_allAt _ _ _ (vt_covers x d R) ?_
  intro p hp y hy
  obtain ⟨a, _, rfl⟩ := List.mem_map.mp hp
  obtain ⟨s, l', rfl⟩ : ∃ (s : Fin 128) (l' : Fin 128), y = ix2 s l' := ⟨y 0, y 1, by funext b; fin_cases b <;> rfl⟩
  have h0 : 0 + 1 * s.val = d.val := congrArg Fin.val (congrFun hy 0)
  have h1 : 128 * a.val + 1 * l'.val = R.val := congrArg Fin.val (congrFun hy 1)
  have hs := l'.isLt
  show k0_pay2 (x a) (ix2 s l') = _
  pointwise [k0_pay2]
  obtain rfl : s = d := Fin.ext (by omega)
  have e1 : R.val % 128 = l'.val := by omega
  have e2 : (⟨R.val / 128, by omega⟩ : Fin 5) = a := Fin.ext (by show R.val / 128 = a.val; omega)
  simp only [e1, e2]

/-- The transposed values under query block `qb`. -/
theorem vtLoad_apply (v : View sig .tc .vmem S128x640 .bf16) (x : Fin 5 → Vec Ideal S1x128x128 .fp8e4m3) (qb : Fin 5)
    (d : Fin 128) (k : Fin (nk qb)) :
    v.readCov (Val := Elt Ideal) (vtPieces (F := Ideal) x)
        (Rect.unit (s := S128x640) ![0, 0] (⟨2, ![128, nk qb]⟩ : Shape).size (inb_vt qb)).toLoadRect (ix2 d k)
      = x (⟨k.val / 128, by have : k.val < 128 * (qb.val + 1) := k.isLt; omega⟩ : Fin 5)
          (ix3 (0 : Fin 1) (⟨k.val % 128, by omega⟩ : Fin 128) d) := by
  have idx : ∀ (d : Fin 128) (k : Fin (nk qb)),
      (Rect.unit (s := S128x640) ![0, 0] (⟨2, ![128, nk qb]⟩ : Shape).size (inb_vt qb)).toLoadRect.idx (ix2 d k)
        = (ix2 d (⟨k.val, by have : k.val < 128 * (qb.val + 1) := k.isLt; omega⟩ : Fin 640) : S128x640.Idx) := by
    intro d k
    funext b
    fin_cases b
    · exact Fin.ext (by show 0 + 1 * d.val = d.val; omega)
    · exact Fin.ext (by show 0 + 1 * k.val = k.val; omega)
  rw [View.readCov_eq_canon]
  · show View.canon (Val := Elt Ideal) _ _ = _
    rw [idx, vt_apply]
  · intro j
    obtain ⟨d, k, rfl⟩ : ∃ (d : Fin 128) (k : Fin (nk qb)), j = ix2 d k := ⟨j 0, j 1, by funext b; fin_cases b <;> rfl⟩
    rw [idx]
    exact vt_covers _ _ _

end Cert.KernelIdeal.Hand

end
-- ==== Proof.Tile.lean ====
/- One output tile read at an index, at the extended reals: attention by powers of two over the tile's keys. -/
module

public import proofs.«01_k».proof.Proof.Body
public import proofs.«01_k».proof.Proof.Spec
public import Idealize.ShloMosaic.Lib.ValueLayout
public import Idealize.ShloMosaic.Lib.Pointwise
public import Idealize.ShloMosaic.Lib.Pointwise.IndexVar

@[expose] public section

set_option maxRecDepth 16384

noncomputable section

namespace Cert.KernelIdeal.Hand

open Idealize.ShloMosaic Idealize.ShloMosaic.TcCoe Idealize.ShloMosaic.Tactic Cert.KernelIdeal.Gen Cert.Attention

/-- A clipped score: the product of key and query, scaled, at most the two biases. -/
theorem clipped_apply (n : Nat) (q : Vec Ideal S1x128x128 .fp8e4m3) (k : Vec Ideal ⟨3, ![1, n, 128]⟩ .fp8e4m3)
    (tab vcol : Vec Ideal ⟨2, ![n, 128]⟩ .f32) (c : EReal) (r : Fin n) (l : Fin 128) :
    clipped (F := Ideal) n q k tab vcol c (ix2 r l)
      = min ((∑ d : Fin 128, (k (ix3 0 r d) : EReal) * (q (ix3 0 l d) : EReal)) * c) ((tab (ix2 r l) : EReal) + vcol (ix2 r l)) := by
  unfold clipped
  pointwise
  congr 2
  refine Finset.sum_congr rfl fun d _ => ?_
  congr 2
  exact ValueIdx.reshapeEquiv_ix2_1ab _ r d

theorem weights_apply (n : Nat) (u : FVec Ideal ⟨2, ![n, 128]⟩ .f32) (r : Fin n) (l : Fin 128) :
    weights (F := Ideal) n u (ix2 r l) = weighTwo (fun r => u (ix2 r l)) r := by
  unfold weights weighTwo
  pointwise
  rw [show Ideal.ofBits .f32 0xFF800000#32 = ⊥ by simp [Ideal.ofBits, Ideal.ieee]]
  rfl

theorem tile_apply (n : Nat) (p : FVec Ideal ⟨2, ![n, 128]⟩ .f32) (vt : Vec Ideal ⟨2, ![128, n]⟩ .bf16) (vs : EReal)
    (l d : Fin 128) :
    tile (F := Ideal) n p vt vs (ix3 0 l d)
      = (∑ r : Fin n, (vt (ix2 d r) : EReal) * p (ix2 r l)) * Ideal.div vs (∑ r : Fin n, (p (ix2 r l) : EReal)) := by
  unfold tile
  pointwise
  congr 1
  refine (Ideal.matmul_plain_apply (φ₁ := .bf16) (φ₂ := .bf16) none vt (truncf .bf16 p bitsLt_bf16_f32) (constant S128x128 .f32 0#32) d l).trans ?_
  refine (congrArg (· + _) (Ideal.ofBits_zero_f32 : _ = (0 : EReal))).trans ?_
  exact zero_add _

end Cert.KernelIdeal.Hand
-- ==== Proof.Block.lean ====
/- The block of outputs one grid point stores, read at an index: attention. -/
module

public import proofs.«01_k».proof.Proof.Codes
public import proofs.«01_k».proof.Proof.Loads
public import proofs.«01_k».proof.Proof.Tile

@[expose] public section

set_option maxRecDepth 16384

noncomputable section

namespace Cert.KernelIdeal.Hand

open Idealize.ShloMosaic Idealize.ShloMosaic.TcCoe Idealize.ShloMosaic.Tactic Cert.KernelIdeal.Gen Cert.Attention

theorem future_eq : future (F := Ideal) = (⊥ : EReal) := IdealRules.named_const.ideal_named_scalar _ _ _ _ rfl

open Classical in
theorem slashAt_apply (row : IVec S1x1x1x180 32) (cnt : BitVec 32) (k i : Nat) (hi : i < 640) :
    slashAt (slashCodes (F := Ideal) row cnt) k i
      = if k ≤ i then (if Listed (fun n : Fin 180 => row (ix4 0 0 0 n)) cnt (i - k) then ⊤ else clipTwo) else (⊥ : EReal) := by
  unfold slashAt
  refine if_congr Iff.rfl ?_ future_eq
  rw [slashCodes_apply]
  have e : 128 * ((i - k) / 128 % 8) + (i - k) % 128 = i - k := by omega
  simp only [e]

/-- The stored codes of the two tables added: the bias of a key. -/
theorem bias_rules (srow : IVec S1x1x1x180 32) (scnt : BitVec 32) (vrow : IVec S1x1x1x100 32) (vcnt : BitVec 32)
    (k i : Nat) (hi : i < 640) (b : EReal) (a : Fin 8) (r : Fin 128) (ha : 128 * a.val + r.val = k)
    (hb : b = (slashAt (slashCodes (F := Ideal) srow scnt) k i : EReal) + (verticalCodes (F := Ideal) vrow vcnt (ix2 r a) : EReal)) :
    (¬ k ≤ i → b = ⊥)
      ∧ (k ≤ i → (Listed (fun n : Fin 180 => srow (ix4 0 0 0 n)) scnt (i - k) ∨ Listed (fun n : Fin 100 => vrow (ix4 0 0 0 n)) vcnt k) → b = ⊤)
      ∧ (k ≤ i → ¬ (Listed (fun n : Fin 180 => srow (ix4 0 0 0 n)) scnt (i - k) ∨ Listed (fun n : Fin 100 => vrow (ix4 0 0 0 n)) vcnt k) → b = clipTwo) := by
  classical
  rw [slashAt_apply srow scnt k i hi, verticalCodes_apply, ha] at hb
  subst hb
  refine ⟨fun h => ?_, fun h hl => ?_, fun h hn => ?_⟩
  · rw [if_neg h]; exact EReal.bot_add _
  · rw [if_pos h]
    by_cases hs : Listed (fun n : Fin 180 => srow (ix4 0 0 0 n)) scnt (i - k)
    · rw [if_pos hs]
      split
      · rfl
      · exact add_zero _
    · rw [if_neg hs, if_pos (hl.resolve_left hs), clipTwo_eq]; rfl
  · rw [if_pos h, if_neg fun hs => hn (.inl hs), if_neg fun hv => hn (.inr hv)]
    exact add_zero _

/-- What a tile stores. -/
theorem outTile_apply (arg13 : Memref sig .tc .vmem S128x640 .bf16) (arg14 arg15 : Memref sig .tc .vmem S640x128 .f32)
    (scnt vcnt : Fin 5 → BitVec 32) (soff : Fin 5 → IVec S1x1x1x180 32) (vidx : Fin 5 → IVec S1x1x1x100 32)
    (qs : Fin 5 → EReal) (ks vs : EReal)
    (q : Vec Ideal S1x128x128 .fp8e4m3) (h qb : Fin 5) (k : Vec Ideal ⟨3, ![1, nk qb, 128]⟩ .fp8e4m3)
    (v : Fin 5 → Vec Ideal S1x128x128 .fp8e4m3) (Q : Fin 128 → EReal) (K V : Fin 640 → Fin 128 → EReal) (l d : Fin 128)
    (hQ : ∀ d, q (ix3 0 l d) = Q d)
    (hK : ∀ (r : Fin (nk qb)) d, k (ix3 0 r d) = K ⟨r.val, by have : r.val < 128 * (qb.val + 1) := r.isLt; omega⟩ d)
    (hV : ∀ (a : Fin 5) (r d : Fin 128), v a (ix3 0 r d) = V ⟨128 * a.val + r.val, by omega⟩ d) :
    tile (F := Ideal) (nk qb)
        (weights (nk qb) (clipped (nk qb) q k
          (arg14.view.readCov (Val := Elt Ideal) (upTo (fun h => tabPieces (slashCodes (soff h) (scnt h))) h.val h.isLt)
            (Rect.unit (s := S640x128) ![512 - 128 * qb.val, 0] (⟨2, ![nk qb, 128]⟩ : Shape).size (inb_tab qb)).toLoadRect)
          (arg15.view.readCov (Val := Elt Ideal) (upTo (fun h => vcolPieces (verticalCodes (vidx h) (vcnt h))) h.val h.isLt)
            (Rect.unit (s := S640x128) ![0, 0] (⟨2, ![nk qb, 128]⟩ : Shape).size (inb_vcol qb)).toLoadRect)
          (Scalar.mulf (F := Ideal) (φ := .f32) (Scalar.mulf (F := Ideal) (φ := .f32) (Scalar.mulf (F := Ideal) (φ := .f32) (qs h) ks) (Scalar.ofBits .f32 0x3DB504F3#32))
            (Named.named κ "log2e" 0x3FB8AA3B#32))))
        (arg13.view.readCov (Val := Elt Ideal) (vtPieces v)
          (Rect.unit (s := S128x640) ![0, 0] (⟨2, ![128, nk qb]⟩ : Shape).size (inb_vt qb)).toLoadRect)
        vs (ix3 0 l d)
      = attention K V Q (qs h * ks * Ideal.ofBits .f32 0x3DB504F3#32) vs (fun n => soff h (ix4 0 0 0 n)) (scnt h)
          (fun n => vidx h (ix4 0 0 0 n)) (vcnt h) (128 * qb.val + l.val) d := by
  classical
  have hn : nk qb ≤ 640 := by show 128 * (qb.val + 1) ≤ 640; omega
  rw [tile_apply]
  simp only [weights_apply]
  refine attend_eq hn _ _ vs (fun key hkey => ?_) _ _ (fun r => ?_) (fun r => ?_)
  · have hkey' : 128 * (qb.val + 1) ≤ key.val := hkey
    exact if_neg (by omega)
  · have hr : r.val < 128 * (qb.val + 1) := r.isLt
    rw [clipped_apply, tabLoad_apply, vcolLoad_apply]
    have hb := bias_rules (soff h) (scnt h) (vidx h) (vcnt h) r.val (128 * qb.val + l.val) (by omega) _
      (⟨r.val / 128, by omega⟩ : Fin 8) (⟨r.val % 128, by omega⟩ : Fin 128) (by show 128 * (r.val / 128) + r.val % 128 = r.val; omega) rfl
    refine Eq.trans ?_ (min_bias _ _ _ _ hb.1 hb.2.1 hb.2.2)
    congr 1
    simp only [hQ, hK]
    rw [show Named.named (F := Ideal) (φ := .f32) κ "log2e" 0x3FB8AA3B#32 = rate from IdealRules.named_const.ideal_named_scalar _ _ _ _ rfl]
    exact (mul_assoc _ _ _).symm
  · have hr : r.val < 128 * (qb.val + 1) := r.isLt
    rw [vtLoad_apply, hV]
    congr 1
    exact Fin.ext (by show 128 * (r.val / 128) + r.val % 128 = r.val; omega)

end Cert.KernelIdeal.Hand
-- ==== Proof.Out.lean ====
/- What one run of the body leaves in the output block, read at an index: attention over the point's blocks. -/
module

public import proofs.«01_k».proof.Proof.Block

@[expose] public section

set_option maxRecDepth 16384

noncomputable section

namespace Cert.KernelIdeal.Hand

open Idealize.ShloMosaic Idealize.ShloMosaic.TcCoe Idealize.ShloMosaic.Tactic Cert.KernelIdeal.Gen Cert.Attention

/-- A scalar load reads the word at its offset. -/
theorem scalar_load {F : FTy → Type} [FloatOps F] {sp : Space} {N : Nat} {e : EltTy} (arg : Memref sig .tc sp ⟨1, ![N]⟩ e) (harg : arg.IsWhole)
    (x : Vec F ⟨1, ![N]⟩ e) (off : Fin 1 → Nat) (inb : ∀ a, off a + S1.size a ≤ (⟨1, ![N]⟩ : Shape).size a) (n : Fin N) (hn : off 0 = n.val) :
    View.readAt (Elt F) arg.view (Rect.unit (s := ⟨1, ![N]⟩) off S1.size inb).toLoadRect (harg.unread x) (Shape.Idx.first (s := S1) pos_one)
      = x (ix1 n) := by
  rw [View.readAt_apply, harg.read_unread]
  congr 1
  funext a
  obtain rfl : a = (0 : Fin 1) := Subsingleton.elim _ _
  exact Fin.ext (by rw [Rect.idx_unit_val]; show off 0 + 0 = n.val; omega)

/-- The pieces read at query `128 qb + l` and column `128 h + d`: the tile of block `qb` and head `h`. -/
theorem pieces_apply (arg13 : Memref sig .tc .vmem S128x640 .bf16) (arg14 arg15 : Memref sig .tc .vmem S640x128 .f32)
    (scnt vcnt : Fin 5 → BitVec 32) (soff : Fin 5 → IVec S1x1x1x180 32) (vidx : Fin 5 → IVec S1x1x1x100 32)
    (qs : Fin 5 → EReal) (ks vs : EReal)
    (q : Fin 5 → Fin 5 → Vec Ideal S1x128x128 .fp8e4m3) (k : (qb : Fin 5) → Vec Ideal ⟨3, ![1, nk qb, 128]⟩ .fp8e4m3)
    (v : Fin 5 → Vec Ideal S1x128x128 .fp8e4m3) (Q : Fin 128 → EReal) (K V : Fin 640 → Fin 128 → EReal)
    (h qb : Fin 5) (l d : Fin 128) (y : S1x640x640.Idx) (hy1 : (y 1).val = 128 * qb.val + l.val) (hy2 : (y 2).val = 128 * h.val + d.val)
    (cov : ∃ p ∈ outPieces (F := Ideal) arg13 arg14 arg15 scnt vcnt soff vidx qs ks vs q k v, y ∈ p.1.set)
    (hQ : ∀ d, q h qb (ix3 0 l d) = Q d)
    (hK : ∀ (r : Fin (nk qb)) d, k qb (ix3 0 r d) = K ⟨r.val, by have : r.val < 128 * (qb.val + 1) := r.isLt; omega⟩ d)
    (hV : ∀ (a : Fin 5) (r d : Fin 128), v a (ix3 0 r d) = V ⟨128 * a.val + r.val, by omega⟩ d) :
    View.canon (outPieces (F := Ideal) arg13 arg14 arg15 scnt vcnt soff vidx qs ks vs q k v) y
      = attention K V Q (qs h * ks * Ideal.ofBits .f32 0x3DB504F3#32) vs (fun n => soff h (ix4 0 0 0 n)) (scnt h)
          (fun n => vidx h (ix4 0 0 0 n)) (vcnt h) (128 * qb.val + l.val) d := by
  refine View.canon_eq_of_allAt _ _ _ cov ?_
  intro p hp x hx
  obtain ⟨h', _, hp⟩ := List.mem_flatMap.mp hp
  obtain ⟨qb', _, rfl⟩ := List.mem_map.mp hp
  obtain ⟨z, l', d', rfl⟩ : ∃ (z : Fin 1) (l' d' : Fin 128), x = ix3 z l' d' := ⟨x 0, x 1, x 2, by funext b; fin_cases b <;> rfl⟩
  have h1 : 128 * qb'.val + 1 * l'.val = (y 1).val := congrArg Fin.val (congrFun hx 1)
  have h2 : 128 * h'.val + 1 * d'.val = (y 2).val := congrArg Fin.val (congrFun hx 2)
  have hl := l.isLt
  have hl' := l'.isLt
  have hd := d.isLt
  have hd' := d'.isLt
  obtain rfl : z = 0 := Subsingleton.elim _ _
  obtain rfl : qb' = qb := Fin.ext (by omega)
  obtain rfl : l' = l := Fin.ext (by omega)
  obtain rfl : h' = h := Fin.ext (by omega)
  obtain rfl : d' = d := Fin.ext (by omega)
  clear hx h1 h2 hp cov
  exact outTile_apply arg13 arg14 arg15 scnt vcnt soff vidx qs ks vs _ h' qb' _ v Q K V l' d' hQ hK hV

section Run

variable (c : Dev nD) (i : grid0.Coords) (arg2 : Memref sig .tc .smem S120 .i32) (harg2 : arg2.IsWhole) (arg3 : Memref sig .tc .smem S120 .i32) (harg3 : arg3.IsWhole) (arg4 : Memref sig .tc .smem S120 .f32) (harg4 : arg4.IsWhole) (arg5 : Memref sig .tc .smem S24 .f32) (harg5 : arg5.IsWhole) (arg6 : Memref sig .tc .smem S24 .f32) (harg6 : arg6.IsWhole) (arg7 : Memref sig .tc .vmem S1x640x640 .fp8e4m3) (harg7 : arg7.IsWhole) (arg8 : Memref sig .tc .vmem S1x640x128 .fp8e4m3) (harg8 : arg8.IsWhole) (arg9 : Memref sig .tc .vmem S1x640x128 .fp8e4m3) (harg9 : arg9.IsWhole) (arg10 : Memref sig .tc .vmem S1x1x5x100 .i32) (harg10 : arg10.IsWhole) (arg11 : Memref sig .tc .vmem S1x1x5x180 .i32) (harg11 : arg11.IsWhole) (arg12 : Memref sig .tc .vmem S1x640x640 .bf16) (harg12 : arg12.IsWhole) (arg13 : Memref sig .tc .vmem S128x640 .bf16) (harg13 : arg13.IsWhole) (arg14 : Memref sig .tc .vmem S640x128 .f32) (harg14 : arg14.IsWhole) (arg15 : Memref sig .tc .vmem S640x128 .f32) (harg15 : arg15.IsWhole)
    (x0 : Vec Ideal S120 .i32) (x1 : Vec Ideal S120 .i32) (x2 : Vec Ideal S120 .f32) (x3 : Vec Ideal S24 .f32) (x4 : Vec Ideal S24 .f32) (x5 : Vec Ideal S1x640x640 .fp8e4m3) (x6 : Vec Ideal S1x640x128 .fp8e4m3) (x7 : Vec Ideal S1x640x128 .fp8e4m3) (x8 : Vec Ideal S1x1x5x100 .i32) (x9 : Vec Ideal S1x1x5x180 .i32)

/-- The output block at query `128 qb + l` and column `128 h + d`. -/
theorem out_apply (h qb : Fin 5) (l d : Fin 128) (n1 : Fin 120) (n2 : Fin 24) (hn1 : k0_off1 i (BitVec.ofNat 32 h.val) 0 = n1.val)
    (hn2 : k0_off2 i 0 = n2.val) (y : S1x640x640.Idx) (hy1 : (y 1).val = 128 * qb.val + l.val) (hy2 : (y 2).val = 128 * h.val + d.val) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y
      = attention (fun key d => x6 (ix3 0 key d)) (fun key d => x7 (ix3 0 key d))
          (fun d => x5 (ix3 0 (⟨128 * qb.val + l.val, by omega⟩ : Fin 640) (⟨128 * h.val + d.val, by omega⟩ : Fin 640)))
          ((x2 (ix1 n1) : EReal) * (x3 (ix1 n2) : EReal) * Ideal.ofBits .f32 0x3DB504F3#32) (x4 (ix1 n2))
          (fun n => x9 (ix4 0 0 h n)) (x1 (ix1 n1)) (fun n => x8 (ix4 0 0 h n)) (x0 (ix1 n1)) (128 * qb.val + l.val) d := by
  have cov := cover0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9
  unfold out0_A_10
  rw [View.read_writes_eq_canon _ _ _ cov]
  have cov := cov y
  rw [pieces_eq] at cov ⊢
  refine (pieces_apply arg13 arg14 arg15 _ _ _ _ _ _ _ _ _ _
    (fun d => x5 (ix3 0 (⟨128 * qb.val + l.val, by omega⟩ : Fin 640) (⟨128 * h.val + d.val, by omega⟩ : Fin 640)))
    (fun key d => x6 (ix3 0 key d)) (fun key d => x7 (ix3 0 key d)) h qb l d y hy1 hy2 cov ?_ ?_ ?_).trans ?_
  · intro d
    rw [View.readAt_apply, harg7.read_unread]
    congr 1
    funext a; apply Fin.ext; rw [Rect.idx_unit_val]
    fin_cases a <;> rfl
  · intro r d
    rw [View.readAt_apply, harg8.read_unread]
    congr 1
    funext a; apply Fin.ext; rw [Rect.idx_unit_val]
    fin_cases a
    · rfl
    · exact Nat.zero_add _
    · exact Nat.zero_add _
  · intro a r d
    rw [View.readAt_apply, harg9.read_unread]
    congr 1
    funext a; apply Fin.ext; rw [Rect.idx_unit_val]
    fin_cases a
    · rfl
    · rfl
    · exact Nat.zero_add _
  · have soff : ∀ n : Fin 180, View.readAt (Elt Ideal) arg11.view (Rect.unit (s := S1x1x5x180) ![0, 0, h.val, 0] S1x1x1x180.size (inb_soff h)).toLoadRect
        (harg11.unread x9) (ix4 0 0 0 n) = x9 (ix4 0 0 h n) := by
      intro n
      rw [View.readAt_apply, harg11.read_unread]
      congr 1
      funext a; apply Fin.ext; rw [Rect.idx_unit_val]
      fin_cases a
      · rfl
      · rfl
      · rfl
      · exact Nat.zero_add _
    have vidx : ∀ n : Fin 100, View.readAt (Elt Ideal) arg10.view (Rect.unit (s := S1x1x5x100) ![0, 0, h.val, 0] S1x1x1x100.size (inb_vidx h)).toLoadRect
        (harg10.unread x8) (ix4 0 0 0 n) = x8 (ix4 0 0 h n) := by
      intro n
      rw [View.readAt_apply, harg10.read_unread]
      congr 1
      funext a; apply Fin.ext; rw [Rect.idx_unit_val]
      fin_cases a
      · rfl
      · rfl
      · rfl
      · exact Nat.zero_add _
    simp only [soff, vidx]
    rw [scalar_load arg2 harg2 x0 _ _ n1 hn1, scalar_load arg3 harg3 x1 _ _ n1 hn1, scalar_load arg4 harg4 x2 _ _ n1 hn1,
      scalar_load arg5 harg5 x3 _ _ n2 hn2, scalar_load arg6 harg6 x4 _ _ n2 hn2]

end Run

end Cert.KernelIdeal.Hand
-- ==== Proof.Inputs.lean ====
/- The blocks one grid point stages, read from the arguments. -/
module

public import proofs.«01_k».proof.Proof.Gen.KernelIdeal.Value
public import Idealize.ShloMosaic.Lib.Pipeline.ValueKit.Point
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe

variable {F : FTy → Type} [FloatOps F] [Named F]

theorem points : cfg0.N = 24 := by decide +kernel

/-- The grid point of batch entry `b` and key head `g`. -/
abbrev point (b : Fin 3) (g : Fin 8) : Fin cfg0.N := ⟨8 * b.val + g.val, by rw [points]; omega⟩

theorem offs (b : Fin 3) (g : Fin 8) (h : Fin 5) :
    k0_off1 (grid0.coords (point b g)) (BitVec.ofNat 32 h.val) 0 = 40 * b.val + (5 * g.val + h.val)
      ∧ k0_off2 (grid0.coords (point b g)) 0 = 8 * b.val + g.val := by
  revert b g h
  decide +kernel

theorem index0 (t : Fin cfg0.N) : win0_0.index t (0 : Fin 1) = 0 ∧ win0_1.index t (0 : Fin 1) = 0
    ∧ win0_2.index t (0 : Fin 1) = 0 ∧ win0_3.index t (0 : Fin 1) = 0 ∧ win0_4.index t (0 : Fin 1) = 0 := by
  revert t
  decide +kernel

theorem index3 (b : Fin 3) (g : Fin 8) :
    (win0_5.index (point b g) (0 : Fin 3) = b.val ∧ win0_5.index (point b g) (1 : Fin 3) = 0 ∧ win0_5.index (point b g) (2 : Fin 3) = g.val)
    ∧ (win0_6.index (point b g) (0 : Fin 3) = b.val ∧ win0_6.index (point b g) (1 : Fin 3) = 0 ∧ win0_6.index (point b g) (2 : Fin 3) = g.val)
    ∧ (win0_7.index (point b g) (0 : Fin 3) = b.val ∧ win0_7.index (point b g) (1 : Fin 3) = 0 ∧ win0_7.index (point b g) (2 : Fin 3) = g.val)
    ∧ (win0_10.index (point b g) (0 : Fin 3) = b.val ∧ win0_10.index (point b g) (1 : Fin 3) = 0 ∧ win0_10.index (point b g) (2 : Fin 3) = g.val) := by
  revert b g
  decide +kernel

theorem index4 (b : Fin 3) (g : Fin 8) :
    (win0_8.index (point b g) (0 : Fin 4) = b.val ∧ win0_8.index (point b g) (1 : Fin 4) = g.val
      ∧ win0_8.index (point b g) (2 : Fin 4) = 0 ∧ win0_8.index (point b g) (3 : Fin 4) = 0)
    ∧ (win0_9.index (point b g) (0 : Fin 4) = b.val ∧ win0_9.index (point b g) (1 : Fin 4) = g.val
      ∧ win0_9.index (point b g) (2 : Fin 4) = 0 ∧ win0_9.index (point b g) (3 : Fin 4) = 0) := by
  revert b g
  decide +kernel

variable (m : (ℓ : Loc nD τ sig) → Buf (Elt F) ℓ) (c : Dev nD) (b : Fin 3) (g : Fin 8)

theorem iblk5_apply (i : Fin 640) (h : Fin 5) (d : Fin 128) :
    iblk m c 5 (point b g) (ix3 0 i (⟨128 * h.val + d.val, by omega⟩ : Fin 640))
      = m ((c : Thread nD τ).loc main_arg0) (ix4 b i (⟨5 * g.val + h.val, by omega⟩ : Fin 40) d) := by
  have := index3 b g
  blk_ext! [iblk, V, this]

theorem iblk6_apply (key : Fin 640) (d : Fin 128) :
    iblk m c 6 (point b g) (ix3 0 key d) = m ((c : Thread nD τ).loc main_arg2) (ix4 b key g d) := by
  have := index3 b g
  blk_ext! [iblk, V, this]

theorem iblk7_apply (key : Fin 640) (d : Fin 128) :
    iblk m c 7 (point b g) (ix3 0 key d) = m ((c : Thread nD τ).loc main_arg4) (ix4 b key g d) := by
  have := index3 b g
  blk_ext! [iblk, V, this]

theorem iblk0_apply (h : Fin 40) :
    iblk m c 0 (point b g) (ix1 (⟨40 * b.val + h.val, by omega⟩ : Fin 120))
      = m ((c : Thread nD τ).loc main_arg7) (ix2 b h) := by
  have := index0 (point b g)
  blk_ext! [iblk, V, this]

theorem iblk1_apply (h : Fin 40) :
    iblk m c 1 (point b g) (ix1 (⟨40 * b.val + h.val, by omega⟩ : Fin 120))
      = m ((c : Thread nD τ).loc main_arg9) (ix2 b h) := by
  have := index0 (point b g)
  blk_ext! [iblk, V, this]

theorem iblk2_apply (h : Fin 40) :
    iblk m c 2 (point b g) (ix1 (⟨40 * b.val + h.val, by omega⟩ : Fin 120))
      = m ((c : Thread nD τ).loc main_arg1) (ix2 b h) := by
  have := index0 (point b g)
  blk_ext! [iblk, V, this]

theorem iblk3_apply :
    iblk m c 3 (point b g) (ix1 (⟨8 * b.val + g.val, by omega⟩ : Fin 24))
      = m ((c : Thread nD τ).loc main_arg3) (ix2 b g) := by
  have := index0 (point b g)
  blk_ext! [iblk, V, this]

theorem iblk4_apply :
    iblk m c 4 (point b g) (ix1 (⟨8 * b.val + g.val, by omega⟩ : Fin 24))
      = m ((c : Thread nD τ).loc main_arg5) (ix2 b g) := by
  have := index0 (point b g)
  blk_ext! [iblk, V, this]

theorem iblk8_apply (h : Fin 5) (n : Fin 100) :
    iblk m c 8 (point b g) (ix4 0 0 h n)
      = m ((c : Thread nD τ).loc main_arg6) (ix3 b (⟨5 * g.val + h.val, by omega⟩ : Fin 40) n) := by
  have := index4 b g
  blk_ext! [iblk, V, this]

theorem iblk9_apply (h : Fin 5) (n : Fin 180) :
    iblk m c 9 (point b g) (ix4 0 0 h n)
      = m ((c : Thread nD τ).loc main_arg8) (ix3 b (⟨5 * g.val + h.val, by omega⟩ : Fin 40) n) := by
  have := index4 b g
  blk_ext! [iblk, V, this]

end Cert.KernelIdeal.Hand
-- ==== Proof.Join.lean ====
/- The kernel's output array at every entry. -/
module

public import proofs.«01_k».proof.Proof.Out
public import proofs.«01_k».proof.Proof.Inputs

@[expose] public section

set_option maxRecDepth 16384

noncomputable section

namespace Cert.KernelIdeal.Hand

open Cert.KernelIdeal Cert.KernelIdeal.Gen Cert.Attention Idealize.ShloMosaic Idealize.ShloMosaic.TcCoe

variable (m : (ℓ : Loc nD τ sig) → Buf (Elt Ideal) ℓ) (c : Dev nD)

theorem flush10 (t : Fin cfg0.N) : (cfg0.win 10).flush t = true := by
  revert t
  decide +kernel

theorem array_apply (b : Fin 3) (g : Fin 8) (h qb : Fin 5) (l d : Fin 128) :
    (dats (F := Ideal) m 0 c).arrAt 10 cfg0.N
        (ix3 b (⟨128 * qb.val + l.val, by omega⟩ : Fin 640) (⟨640 * g.val + 128 * h.val + d.val, by omega⟩ : Fin 5120))
      = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) b ⟨128 * qb.val + l.val, by omega⟩ g h d := by
  obtain ⟨e1, e2⟩ := offs b g h
  have e := congrFun (Cert.KernelIdeal.Value.blocks10 (F := Ideal) m c (point b g) (flush10 _))
    (ix3 0 (⟨128 * qb.val + l.val, by omega⟩ : Fin 640) (⟨128 * h.val + d.val, by omega⟩ : Fin 640))
  rw [Cert.KernelIdeal.Value.flushed10_A] at e
  have e' : (dats (F := Ideal) m 0 c).arrAt 10 cfg0.N
      (((cfg0.win 10).blk (point b g)).view.emb (ix3 0 (⟨128 * qb.val + l.val, by omega⟩ : Fin 640) (⟨128 * h.val + d.val, by omega⟩ : Fin 640))) = _ := e
  have emb : ((cfg0.win 10).blk (point b g)).view.emb (ix3 0 (⟨128 * qb.val + l.val, by omega⟩ : Fin 640) (⟨128 * h.val + d.val, by omega⟩ : Fin 640))
      = ix3 b (⟨128 * qb.val + l.val, by omega⟩ : Fin 640) (⟨640 * g.val + 128 * h.val + d.val, by omega⟩ : Fin 5120) := by
    have i3 := (index3 b g).2.2.2
    funext a; apply Fin.ext
    match a with
    | ⟨0, _⟩ => show win0_10.index (point b g) (0 : Fin 3) * 1 + 1 * 0 = b.val; omega
    | ⟨1, _⟩ => show win0_10.index (point b g) (1 : Fin 3) * 640 + 1 * (128 * qb.val + l.val) = 128 * qb.val + l.val; omega
    | ⟨2, _⟩ => show win0_10.index (point b g) (2 : Fin 3) * 640 + 1 * (128 * h.val + d.val) = 640 * g.val + 128 * h.val + d.val; omega
  rw [emb] at e'
  rw [e']
  refine (out_apply c _ _ _ _ _ _ _ _ _ _ _ _ _ _ _ _ _ _ _ _ _ _ _ _ _ _ _ _ _ _ _ _ _ _ _ _ _ _ _ h qb l d
    (⟨40 * b.val + (5 * g.val + h.val), by omega⟩ : Fin 120) (⟨8 * b.val + g.val, by omega⟩ : Fin 24) e1 e2 _ rfl rfl).trans ?_
  unfold result
  simp only [iblk5_apply, iblk6_apply, iblk7_apply, iblk3_apply, iblk4_apply, iblk8_apply, iblk9_apply]
  have h0 := iblk0_apply m c b g (⟨5 * g.val + h.val, by omega⟩ : Fin 40)
  have h1 := iblk1_apply m c b g (⟨5 * g.val + h.val, by omega⟩ : Fin 40)
  have h2 := iblk2_apply m c b g (⟨5 * g.val + h.val, by omega⟩ : Fin 40)
  rw [h0, h1, h2]

end Cert.KernelIdeal.Hand
-- ==== Proof.Reference.lean ====
/- The reference's result at every entry. -/
module

public import proofs.«01_k».proof.Proof.Gen.ReferenceIdeal.Read
public import proofs.«01_k».proof.Proof.Spec
public import Idealize.ShloMosaic.Lib.WordCmp

@[expose] public section

set_option maxRecDepth 16384

noncomputable section

namespace Cert.ReferenceIdeal.Hand

open Cert.ReferenceIdeal Cert.ReferenceIdeal.Gen Cert.ReferenceIdeal.Read Cert.Attention Idealize.ShloMosaic Idealize.ShloMosaic.TcCoe

variable (x1 : (⟨S3x40, .f32⟩ : BufTy).Contents (Elt Ideal)) (x3 x5 : (⟨S3x8, .f32⟩ : BufTy).Contents (Elt Ideal))
  (x6 : (⟨S3x40x100, .i32⟩ : BufTy).Contents (Elt Ideal)) (x7 : (⟨S3x40, .i32⟩ : BufTy).Contents (Elt Ideal))
  (x8 : (⟨S3x40x180, .i32⟩ : BufTy).Contents (Elt Ideal)) (x9 : (⟨S3x40, .i32⟩ : BufTy).Contents (Elt Ideal))
  (r0 : (⟨S3x640x40x128, .f32⟩ : BufTy).Contents (Elt Ideal)) (r1 r2 : (⟨S3x640x8x128, .f32⟩ : BufTy).Contents (Elt Ideal))
  (b : Fin 3) (g : Fin 8) (h : Fin 5) (i key : Fin 640)

/-- The head of group `g` with place `h`. -/
abbrev head (g : Fin 8) (h : Fin 5) : Fin 40 := ⟨5 * g.val + h.val, by omega⟩

theorem head_comm (p : g.val * 5 + h.val < 40) : (⟨g.val * 5 + h.val, p⟩ : Fin 40) = head g h :=
  Fin.ext (by show g.val * 5 + h.val = 5 * g.val + h.val; omega)

theorem scaled_apply : val_main_v55 (F := Ideal) x1 x3 (ix5 b g h i key)
    = ((x1 (ix2 b (head g h)) : EReal) * x3 (ix2 b g) * Ideal.ofBits .f32 0x3DB504F3#32 : EReal) := by
  pointwise [val_main_v55, val_main_v54, val_main_v51, val_main_v50, val_main_cst, val_main_v49, val_main_v48, val_main_v47, val_main_v46]
  rw [head_comm]

theorem product_apply : val_main_v53 (F := Ideal) r0 r1 (ix5 b g h i key)
    = ∑ d : Fin 128, (r1 (ix4 b key g d) : EReal) * r0 (ix4 b i (head g h) d) := by
  pointwise [val_main_v53]
  rw [val_main_v52_apply]
  refine Finset.sum_congr rfl fun d _ => ?_
  have e : val_main_v1 (F := Ideal) r0 (ix5 b i g h d) = r0 (ix4 b i (head g h) d) := by
    pointwise [val_main_v1]
    rw [head_comm]
  rw [← e]
  have e1 : lidx_main_v52 (ix5 b g key i h) d = ix4 b key g d := by
    funext a; fin_cases a <;> rfl
  have e2 : ridx_main_v52 (ix5 b g key i h) d = ix5 b i g h d := by
    funext a; fin_cases a <;> rfl
  rw [e1, e2]

theorem verticalHit_apply (head : Fin 40) (n : Fin 100) : val_main_v28 (F := Ideal) x6 x7 (ix4 b head key n)
    = IntOp.andi (IntOp.cmpi .eq (x6 (ix3 b head n)) (BitVec.ofNat 32 key.val)) (IntOp.cmpi .slt (BitVec.ofNat 32 n.val) (x7 (ix2 b head))) := by
  pointwise [val_main_v28, val_main_v27, val_main_v26, val_main_v25, val_main_v24, val_main_v23, val_main_v22, val_main_v21, val_main_v20,
    val_main_v8, val_main_v7, val_main_v6, val_main_v5, val_main_v4, val_main_v3, val_main_v2]

theorem slashHit_apply (head : Fin 40) (n : Fin 180) : val_main_v38 (F := Ideal) x8 x9 (ix5 b head i key n)
    = IntOp.andi (IntOp.cmpi .eq (x8 (ix3 b head n)) (IntOp.subi (BitVec.ofNat 32 i.val) (BitVec.ofNat 32 key.val))) (IntOp.cmpi .slt (BitVec.ofNat 32 n.val) (x9 (ix2 b head))) := by
  pointwise [val_main_v38, val_main_v37, val_main_v36, val_main_v35, val_main_v34, val_main_v33, val_main_v32, val_main_v31, val_main_v30,
    val_main_v19, val_main_v18, val_main_v17, val_main_v16, val_main_v15, val_main_v14, val_main_v13, val_main_v12, val_main_v11, val_main_v10, val_main_v9, val_main_v2]

theorem causal_apply : val_main_call1_v1 (F := Ideal) (ix5 b g h i key)
    = IntOp.cmpi .sge (IntOp.subi (BitVec.ofNat 32 i.val) (BitVec.ofNat 32 key.val)) 0#32 := by
  pointwise [val_main_call1_v1, val_main_v45, val_main_v44, val_main_c_1, val_main_v19, val_main_v18, val_main_v17, val_main_v16, val_main_v15, val_main_v2]

theorem listed_apply : val_main_v43 (F := Ideal) x6 x7 x8 x9 (ix5 b g h i key)
    = IntOp.ori (val_main_v29 (F := Ideal) x6 x7 (ix3 b (head g h) key)) (val_main_v39 (F := Ideal) x8 x9 (ix4 b (head g h) i key)) := by
  pointwise [val_main_v43, val_main_v42, val_main_v41, val_main_v40]
  rw [head_comm]

theorem fold_ori {N : Nat} (f : Fin N → BitVec 1) :
    (Finset.univ : Finset (Fin N)).fold IntOp.ori 0#1 f = 1#1 ↔ ∃ n, f n = 1#1 := by
  have e : ∀ x y : BitVec 1, IntOp.ori x y = 1#1 ↔ x = 1#1 ∨ y = 1#1 := by decide
  have f := Finset.fold_op_rel_iff_or (op := (IntOp.ori : BitVec 1 → BitVec 1 → BitVec 1)) (f := f) (b := 0#1) (s := Finset.univ) (r := fun _ x => x = 1#1)
    (fun {_ y z} => e y z) (c := 0#1)
  rw [f]
  simp

theorem andi_eq_one (x y : BitVec 1) : IntOp.andi x y = 1#1 ↔ x = 1#1 ∧ y = 1#1 := by
  revert x y; decide

theorem ori_eq_one (x y : BitVec 1) : IntOp.ori x y = 1#1 ↔ x = 1#1 ∨ y = 1#1 := by
  revert x y; decide

theorem cmpi_eq_one {w : Nat} (x y : BitVec w) : IntOp.cmpi .eq x y = 1#1 ↔ x = y := by
  show BitVec.ofBool (x == y) = 1#1 ↔ x = y
  by_cases e : x = y
  · subst e
    simp
  · rw [beq_false_of_ne e]
    simp [e]

theorem vertical_apply (head : Fin 40) : val_main_v29 (F := Ideal) x6 x7 (ix3 b head key) = 1#1
    ↔ Listed (fun n => x6 (ix3 b head n)) (x7 (ix2 b head)) key.val := by
  have e : val_main_v29 (F := Ideal) x6 x7 (ix3 b head key)
      = (Finset.univ : Finset (Fin 100)).fold IntOp.ori 0#1 (fun n => val_main_v28 (F := Ideal) x6 x7 (ix4 b head key n)) := by
    pointwise [val_main_v29, val_main_c]
  rw [e, fold_ori]
  simp only [verticalHit_apply, andi_eq_one, cmpi_eq_one, Listed, and_comm]

theorem subi_ofNat (le : key.val ≤ i.val) : IntOp.subi (BitVec.ofNat 32 i.val) (BitVec.ofNat 32 key.val) = BitVec.ofNat 32 (i.val - key.val) := by
  show BitVec.ofNat 32 i.val - BitVec.ofNat 32 key.val = _
  apply BitVec.eq_of_toNat_eq
  have h1 := i.isLt
  have h2 := key.isLt
  simp only [BitVec.toNat_sub, BitVec.toNat_ofNat]
  omega

theorem slash_apply (head : Fin 40) (le : key.val ≤ i.val) : val_main_v39 (F := Ideal) x8 x9 (ix4 b head i key) = 1#1
    ↔ Listed (fun n => x8 (ix3 b head n)) (x9 (ix2 b head)) (i.val - key.val) := by
  have e : val_main_v39 (F := Ideal) x8 x9 (ix4 b head i key)
      = (Finset.univ : Finset (Fin 180)).fold IntOp.ori 0#1 (fun n => val_main_v38 (F := Ideal) x8 x9 (ix5 b head i key n)) := by
    pointwise [val_main_v39, val_main_c_0]
  rw [e, fold_ori]
  simp only [slashHit_apply, andi_eq_one, cmpi_eq_one, subi_ofNat i key le, Listed, and_comm]

theorem causal_iff : val_main_call1_v1 (F := Ideal) (ix5 b g h i key) = 1#1 ↔ key.val ≤ i.val := by
  rw [causal_apply]
  show BitVec.ofBool (BitVec.sle 0#32 (BitVec.ofNat 32 i.val - BitVec.ofNat 32 key.val)) = 1#1 ↔ _
  have h1 := i.isLt
  have h2 := key.isLt
  have h3 : (BitVec.ofNat 32 i.val - BitVec.ofNat 32 key.val).toInt = (i.val : Int) - key.val := by
    rw [BitVec.toInt_eq_toNat_cond]
    simp only [BitVec.toNat_sub, BitVec.toNat_ofNat]
    split <;> omega
  have h4 : BitVec.sle 0#32 (BitVec.ofNat 32 i.val - BitVec.ofNat 32 key.val) = decide (key.val ≤ i.val) := by
    rw [BitVec.sle_eq_decide, h3]
    simp
  rw [h4]
  by_cases e : key.val ≤ i.val <;> simp [e]

open Classical in
/-- The clipped score of key `key` for query `i` of head `head`. -/
def score (b : Fin 3) (g : Fin 8) (h : Fin 5) (i key : Fin 640) : EReal :=
  clippedScore (key.val ≤ i.val)
    (Listed (fun n => x8 (ix3 b (head g h) n)) (x9 (ix2 b (head g h))) (i.val - key.val)
      ∨ Listed (fun n => x6 (ix3 b (head g h) n)) (x7 (ix2 b (head g h))) key.val)
    ((∑ d : Fin 128, (r1 (ix4 b key g d) : EReal) * r0 (ix4 b i (head g h) d))
      * ((x1 (ix2 b (head g h)) : EReal) * x3 (ix2 b g) * Ideal.ofBits .f32 0x3DB504F3#32))

theorem score_apply : val_main_v62 (F := Ideal) x1 x3 x6 x7 x8 x9 r0 r1 (ix5 b g h i key)
    = score x1 x3 x6 x7 x8 x9 r0 r1 b g h i key := by
  have e60 : val_main_v60 (F := Ideal) x1 x3 r0 r1 (ix5 b g h i key) = min (val_main_v56 (F := Ideal) x1 x3 r0 r1 (ix5 b g h i key) : EReal) clip := by
    pointwise [val_main_v60, val_main_v59, val_main_v58, val_main_v57, val_main_cst_2, val_main_cst_3]
    rfl
  have e56 : val_main_v56 (F := Ideal) x1 x3 r0 r1 (ix5 b g h i key)
      = (∑ d : Fin 128, (r1 (ix4 b key g d) : EReal) * r0 (ix4 b i (head g h) d))
        * ((x1 (ix2 b (head g h)) : EReal) * x3 (ix2 b g) * Ideal.ofBits .f32 0x3DB504F3#32) := by
    rw [val_main_v56_apply, product_apply, scaled_apply]
    rfl
  have e2 : val_main_call1_v2 (F := Ideal) (ix5 b g h i key) = (⊥ : EReal) := by
    pointwise [val_main_call1_v2, val_main_call1_v0, val_main_cst_4]
    show Ideal.ofBits .f32 0xFF800000#32 = ⊥
    simp [Ideal.ofBits, Ideal.ieee]
  unfold score clippedScore
  rw [val_main_v62_apply, val_main_v61_apply, e60, e56, e2]
  show (if val_main_call1_v1 (F := Ideal) (ix5 b g h i key) = 1#1
    then (if val_main_v43 (F := Ideal) x6 x7 x8 x9 (ix5 b g h i key) = 1#1 then _ else _) else _) = _
  by_cases le : key.val ≤ i.val
  · rw [if_pos ((causal_iff b g h i key).mpr le), if_pos le]
    have e : val_main_v43 (F := Ideal) x6 x7 x8 x9 (ix5 b g h i key) = 1#1
        ↔ Listed (fun n => x8 (ix3 b (head g h) n)) (x9 (ix2 b (head g h))) (i.val - key.val)
          ∨ Listed (fun n => x6 (ix3 b (head g h) n)) (x7 (ix2 b (head g h))) key.val := by
      rw [listed_apply, ori_eq_one, vertical_apply, slash_apply x8 x9 b i key (head g h) le, or_comm]
    by_cases l : val_main_v43 (F := Ideal) x6 x7 x8 x9 (ix5 b g h i key) = 1#1
    · rw [if_pos l, if_pos (e.mp l)]
    · rw [if_neg l, if_neg (fun x => l (e.mpr x))]
  · rw [if_neg (fun x => le ((causal_iff b g h i key).mp x)), if_neg le]

theorem greatest_apply : val_main_v63 (F := Ideal) x1 x3 x6 x7 x8 x9 r0 r1 (ix4 b g h i)
    = Finset.univ.sup (score x1 x3 x6 x7 x8 x9 r0 r1 b g h i) := by
  have e : val_main_v63 (F := Ideal) x1 x3 x6 x7 x8 x9 r0 r1 (ix4 b g h i)
      = (Finset.univ : Finset (Fin 640)).fold (max : EReal → EReal → EReal) (Ideal.ofBits .f32 0xFF800000#32)
        (fun key => (val_main_v62 (F := Ideal) x1 x3 x6 x7 x8 x9 r0 r1 (ix5 b g h i key) : EReal)) := by
    pointwise [val_main_v63, val_main_cst_5]
  rw [e]
  simp only [score_apply]
  rw [show (Ideal.ofBits .f32 0xFF800000#32 : EReal) = ⊥ by simp [Ideal.ofBits, Ideal.ieee]]
  rfl

theorem weight_apply : val_main_v67 (F := Ideal) x1 x3 x6 x7 x8 x9 r0 r1 (ix5 b g h i key)
    = weigh (score x1 x3 x6 x7 x8 x9 r0 r1 b g h i) key := by
  have e : val_main_v65 (F := Ideal) x1 x3 x6 x7 x8 x9 r0 r1 (ix5 b g h i key) = val_main_v63 (F := Ideal) x1 x3 x6 x7 x8 x9 r0 r1 (ix4 b g h i) := by
    pointwise [val_main_v65, val_main_v64]
  rw [val_main_v67_apply, val_main_v66_apply, e, score_apply, greatest_apply]
  rfl

theorem total_apply : val_main_v68 (F := Ideal) x1 x3 x6 x7 x8 x9 r0 r1 (ix4 b g h i)
    = ∑ key, weigh (score x1 x3 x6 x7 x8 x9 r0 r1 b g h i) key := by
  rw [val_main_v68_apply]
  have e : (val_main_cst_6 (F := Ideal) (Shape.Idx.first h_S_) : EReal) = 0 := by
    show Ideal.ofBits .f32 0x00000000#32 = 0
    simp [Ideal.ofBits, Ideal.ieee]
  rw [e]
  refine (zero_add _).trans (Finset.sum_congr rfl fun key _ => ?_)
  rw [← weight_apply]
  congr 1
  funext a; fin_cases a <;> rfl

theorem attended_apply (d : Fin 128) : val_main_v77 (F := Ideal) x1 x3 x5 x6 x7 x8 x9 r0 r1 r2 (ix5 b g h i d)
    = attend (score x1 x3 x6 x7 x8 x9 r0 r1 b g h i) (fun key => r2 (ix4 b key g d)) (x5 (ix2 b g)) := by
  have e : val_main_v76 (F := Ideal) x1 x3 x5 x6 x7 x8 x9 r0 r1 (ix5 b g h i d)
      = Ideal.div (x5 (ix2 b g)) (val_main_v68 (F := Ideal) x1 x3 x6 x7 x8 x9 r0 r1 (ix4 b g h i)) := by
    pointwise [val_main_v76, val_main_v75, val_main_v74, val_main_v73, val_main_v69]
  rw [val_main_v77_apply, e, total_apply, val_main_v72_apply]
  unfold attend
  refine congrArg (· * _) (Finset.sum_congr rfl fun key _ => ?_)
  have e1 : lidx_main_v72 (ix5 b g h i d) key = ix5 b g h i key := by
    funext a; fin_cases a <;> rfl
  have e2 : ridx_main_v72 (ix5 b g h i d) key = ix4 b key g d := by
    funext a; fin_cases a <;> rfl
  rw [e1, e2, ← weight_apply]
  rfl

/-- The reference's array at every entry. -/
theorem result_apply (d : Fin 128) :
    val_main_v80 (F := Ideal) x1 x3 x5 x6 x7 x8 x9 r0 r1 r2 (ix3 b i (⟨640 * g.val + 128 * h.val + d.val, by omega⟩ : Fin 5120))
      = result r0 x1 r1 x3 r2 x5 x6 x7 x8 x9 b i g h d := by
  have e : val_main_v80 (F := Ideal) x1 x3 x5 x6 x7 x8 x9 r0 r1 r2 (ix3 b i (⟨640 * g.val + 128 * h.val + d.val, by omega⟩ : Fin 5120))
      = val_main_v77 (F := Ideal) x1 x3 x5 x6 x7 x8 x9 r0 r1 r2 (ix5 b g h i d) := by
    rw [val_main_v80_apply, val_main_v79_apply, val_main_v78_apply]
    show val_main_v77 (F := Ideal) x1 x3 x5 x6 x7 x8 x9 r0 r1 r2 _ = _
    congr 1
    have := b.isLt
    have := i.isLt
    have := d.isLt
    funext a; apply Fin.ext
    fin_cases a
    all_goals simp
    all_goals omega
  rw [e, attended_apply]
  rfl

end Cert.ReferenceIdeal.Hand
-- ==== Proof.Widen.lean ====
/- The reference's widened arrays are its fp8 arguments. -/
module

public import proofs.«01_k».proof.Proof.Gen.ReferenceIdeal.Run
public import Idealize.ShloMosaic.Lib.Pipeline.ValueKit.Point
public import Idealize.ShloMosaic.Lib.Pointwise

@[expose] public section

set_option maxRecDepth 16384

noncomputable section

namespace Cert.ReferenceIdeal.Hand

open Cert.ReferenceIdeal Cert.ReferenceIdeal.Gen Idealize.ShloMosaic Idealize.ShloMosaic.TcCoe

theorem points : cfg0.N = 1 := by decide +kernel

theorem one_point (t t' : Fin cfg0.N) : t = t' := by
  apply Fin.ext
  have := t.isLt
  have := t'.isLt
  have := points
  omega

abbrev t0 : Fin cfg0.N := ⟨0, by rw [points]; omega⟩

variable (m : (ℓ : Loc nD τ sig) → Buf (Elt Ideal) ℓ) (c : Dev nD)

/-- Every window's one block starts at zero. -/
theorem starts : (∀ a, win0_0.index t0 a = 0) ∧ (∀ a, win0_1.index t0 a = 0) ∧ (∀ a, win0_2.index t0 a = 0)
    ∧ (∀ a, win0_3.index t0 a = 0) ∧ (∀ a, win0_4.index t0 a = 0) ∧ (∀ a, win0_5.index t0 a = 0) := by
  decide +kernel

theorem widen0 : Value.reg_main_v0_0 (F := Ideal) m c = m ((c : Thread nD τ).loc main_arg0) := by
  have e := (dats (F := Ideal) m 0 c).read_blk_arrAt_eq_flushed 3 (fun t t' _ _ n => absurd (one_point t t') n) cfg0.N t0 t0.isLt (flush0_3 t0)
  funext y
  have b := congrFun e y
  have f : (dats (F := Ideal) m 0 c).flushed 3 t0 = (cfg0.win 3).cut (grid0.coords t0) (out0_3 (iblk m c 0 t0) (iblk m c 1 t0) (iblk m c 2 t0)) := by
    show (cfg0.win 3).cut (grid0.coords t0) ((dats m 0 c).after 3 t0) = _
    rw [after0_3]
  rw [f] at b
  have b' : (dats (F := Ideal) m 0 c).arrAt 3 cfg0.N (((cfg0.win 3).blk t0).view.emb y) = out0_3 (iblk m c 0 t0) (iblk m c 1 t0) (iblk m c 2 t0) y := b
  have embOut : ((cfg0.win 3).blk t0).view.emb y = y := by
    funext a; apply Fin.ext
    match a with
    | ⟨0, _⟩ =>
      have s : win0_3.index t0 (0 : Fin 4) = 0 := starts.2.2.2.1 _
      show win0_3.index t0 (0 : Fin 4) * 3 + 1 * (y (0 : Fin 4)).val = (y (0 : Fin 4)).val
      omega
    | ⟨1, _⟩ =>
      have s : win0_3.index t0 (1 : Fin 4) = 0 := starts.2.2.2.1 _
      show win0_3.index t0 (1 : Fin 4) * 640 + 1 * (y (1 : Fin 4)).val = (y (1 : Fin 4)).val
      omega
    | ⟨2, _⟩ =>
      have s : win0_3.index t0 (2 : Fin 4) = 0 := starts.2.2.2.1 _
      show win0_3.index t0 (2 : Fin 4) * 40 + 1 * (y (2 : Fin 4)).val = (y (2 : Fin 4)).val
      omega
    | ⟨3, _⟩ =>
      have s : win0_3.index t0 (3 : Fin 4) = 0 := starts.2.2.2.1 _
      show win0_3.index t0 (3 : Fin 4) * 128 + 1 * (y (3 : Fin 4)).val = (y (3 : Fin 4)).val
      omega
  have embIn : ((cfg0.win 0).blk t0).view.emb y = y := by
    funext a; apply Fin.ext
    match a with
    | ⟨0, _⟩ =>
      have s : win0_0.index t0 (0 : Fin 4) = 0 := starts.1 _
      show win0_0.index t0 (0 : Fin 4) * 3 + 1 * (y (0 : Fin 4)).val = (y (0 : Fin 4)).val
      omega
    | ⟨1, _⟩ =>
      have s : win0_0.index t0 (1 : Fin 4) = 0 := starts.1 _
      show win0_0.index t0 (1 : Fin 4) * 640 + 1 * (y (1 : Fin 4)).val = (y (1 : Fin 4)).val
      omega
    | ⟨2, _⟩ =>
      have s : win0_0.index t0 (2 : Fin 4) = 0 := starts.1 _
      show win0_0.index t0 (2 : Fin 4) * 40 + 1 * (y (2 : Fin 4)).val = (y (2 : Fin 4)).val
      omega
    | ⟨3, _⟩ =>
      have s : win0_0.index t0 (3 : Fin 4) = 0 := starts.1 _
      show win0_0.index t0 (3 : Fin 4) * 128 + 1 * (y (3 : Fin 4)).val = (y (3 : Fin 4)).val
      omega
  rw [embOut] at b'
  show (dats (F := Ideal) m 0 c).arrAt 3 cfg0.N y = _
  rw [b']
  unfold out0_3
  rw [View.canon_cons_unit_lit _ _ _ (by decide)]
  show View.ld (iblk m c 0 t0) r0_0 y = _
  unfold View.ld
  have id : r0_0.idx y = y := by
    funext a; apply Fin.ext; rw [Rect.idx_unit_val]
    fin_cases a <;> exact Nat.zero_add _
  show iblk m c 0 t0 (r0_0.idx y) = _
  rw [id]
  show V m c main_arg0 (((cfg0.win 0).blk t0).view.emb y) = _
  rw [embIn]
  rfl

theorem widen1 : Value.reg_main_v0_1 (F := Ideal) m c = m ((c : Thread nD τ).loc main_arg2) := by
  have e := (dats (F := Ideal) m 0 c).read_blk_arrAt_eq_flushed 4 (fun t t' _ _ n => absurd (one_point t t') n) cfg0.N t0 t0.isLt (flush0_4 t0)
  funext y
  have b := congrFun e y
  have f : (dats (F := Ideal) m 0 c).flushed 4 t0 = (cfg0.win 4).cut (grid0.coords t0) (out0_4 (iblk m c 0 t0) (iblk m c 1 t0) (iblk m c 2 t0)) := by
    show (cfg0.win 4).cut (grid0.coords t0) ((dats m 0 c).after 4 t0) = _
    rw [after0_4]
  rw [f] at b
  have b' : (dats (F := Ideal) m 0 c).arrAt 4 cfg0.N (((cfg0.win 4).blk t0).view.emb y) = out0_4 (iblk m c 0 t0) (iblk m c 1 t0) (iblk m c 2 t0) y := b
  have embOut : ((cfg0.win 4).blk t0).view.emb y = y := by
    funext a; apply Fin.ext
    match a with
    | ⟨0, _⟩ =>
      have s : win0_4.index t0 (0 : Fin 4) = 0 := starts.2.2.2.2.1 _
      show win0_4.index t0 (0 : Fin 4) * 3 + 1 * (y (0 : Fin 4)).val = (y (0 : Fin 4)).val
      omega
    | ⟨1, _⟩ =>
      have s : win0_4.index t0 (1 : Fin 4) = 0 := starts.2.2.2.2.1 _
      show win0_4.index t0 (1 : Fin 4) * 640 + 1 * (y (1 : Fin 4)).val = (y (1 : Fin 4)).val
      omega
    | ⟨2, _⟩ =>
      have s : win0_4.index t0 (2 : Fin 4) = 0 := starts.2.2.2.2.1 _
      show win0_4.index t0 (2 : Fin 4) * 8 + 1 * (y (2 : Fin 4)).val = (y (2 : Fin 4)).val
      omega
    | ⟨3, _⟩ =>
      have s : win0_4.index t0 (3 : Fin 4) = 0 := starts.2.2.2.2.1 _
      show win0_4.index t0 (3 : Fin 4) * 128 + 1 * (y (3 : Fin 4)).val = (y (3 : Fin 4)).val
      omega
  have embIn : ((cfg0.win 1).blk t0).view.emb y = y := by
    funext a; apply Fin.ext
    match a with
    | ⟨0, _⟩ =>
      have s : win0_1.index t0 (0 : Fin 4) = 0 := starts.2.1 _
      show win0_1.index t0 (0 : Fin 4) * 3 + 1 * (y (0 : Fin 4)).val = (y (0 : Fin 4)).val
      omega
    | ⟨1, _⟩ =>
      have s : win0_1.index t0 (1 : Fin 4) = 0 := starts.2.1 _
      show win0_1.index t0 (1 : Fin 4) * 640 + 1 * (y (1 : Fin 4)).val = (y (1 : Fin 4)).val
      omega
    | ⟨2, _⟩ =>
      have s : win0_1.index t0 (2 : Fin 4) = 0 := starts.2.1 _
      show win0_1.index t0 (2 : Fin 4) * 8 + 1 * (y (2 : Fin 4)).val = (y (2 : Fin 4)).val
      omega
    | ⟨3, _⟩ =>
      have s : win0_1.index t0 (3 : Fin 4) = 0 := starts.2.1 _
      show win0_1.index t0 (3 : Fin 4) * 128 + 1 * (y (3 : Fin 4)).val = (y (3 : Fin 4)).val
      omega
  rw [embOut] at b'
  show (dats (F := Ideal) m 0 c).arrAt 4 cfg0.N y = _
  rw [b']
  unfold out0_4
  rw [View.canon_cons_unit_lit _ _ _ (by decide)]
  show View.ld (iblk m c 1 t0) r0_1 y = _
  unfold View.ld
  have id : r0_1.idx y = y := by
    funext a; apply Fin.ext; rw [Rect.idx_unit_val]
    fin_cases a <;> exact Nat.zero_add _
  show iblk m c 1 t0 (r0_1.idx y) = _
  rw [id]
  show V m c main_arg2 (((cfg0.win 1).blk t0).view.emb y) = _
  rw [embIn]
  rfl

theorem widen2 : Value.reg_main_v0_2 (F := Ideal) m c = m ((c : Thread nD τ).loc main_arg4) := by
  have e := (dats (F := Ideal) m 0 c).read_blk_arrAt_eq_flushed 5 (fun t t' _ _ n => absurd (one_point t t') n) cfg0.N t0 t0.isLt (flush0_5 t0)
  funext y
  have b := congrFun e y
  have f : (dats (F := Ideal) m 0 c).flushed 5 t0 = (cfg0.win 5).cut (grid0.coords t0) (out0_5 (iblk m c 0 t0) (iblk m c 1 t0) (iblk m c 2 t0)) := by
    show (cfg0.win 5).cut (grid0.coords t0) ((dats m 0 c).after 5 t0) = _
    rw [after0_5]
  rw [f] at b
  have b' : (dats (F := Ideal) m 0 c).arrAt 5 cfg0.N (((cfg0.win 5).blk t0).view.emb y) = out0_5 (iblk m c 0 t0) (iblk m c 1 t0) (iblk m c 2 t0) y := b
  have embOut : ((cfg0.win 5).blk t0).view.emb y = y := by
    funext a; apply Fin.ext
    match a with
    | ⟨0, _⟩ =>
      have s : win0_5.index t0 (0 : Fin 4) = 0 := starts.2.2.2.2.2 _
      show win0_5.index t0 (0 : Fin 4) * 3 + 1 * (y (0 : Fin 4)).val = (y (0 : Fin 4)).val
      omega
    | ⟨1, _⟩ =>
      have s : win0_5.index t0 (1 : Fin 4) = 0 := starts.2.2.2.2.2 _
      show win0_5.index t0 (1 : Fin 4) * 640 + 1 * (y (1 : Fin 4)).val = (y (1 : Fin 4)).val
      omega
    | ⟨2, _⟩ =>
      have s : win0_5.index t0 (2 : Fin 4) = 0 := starts.2.2.2.2.2 _
      show win0_5.index t0 (2 : Fin 4) * 8 + 1 * (y (2 : Fin 4)).val = (y (2 : Fin 4)).val
      omega
    | ⟨3, _⟩ =>
      have s : win0_5.index t0 (3 : Fin 4) = 0 := starts.2.2.2.2.2 _
      show win0_5.index t0 (3 : Fin 4) * 128 + 1 * (y (3 : Fin 4)).val = (y (3 : Fin 4)).val
      omega
  have embIn : ((cfg0.win 2).blk t0).view.emb y = y := by
    funext a; apply Fin.ext
    match a with
    | ⟨0, _⟩ =>
      have s : win0_2.index t0 (0 : Fin 4) = 0 := starts.2.2.1 _
      show win0_2.index t0 (0 : Fin 4) * 3 + 1 * (y (0 : Fin 4)).val = (y (0 : Fin 4)).val
      omega
    | ⟨1, _⟩ =>
      have s : win0_2.index t0 (1 : Fin 4) = 0 := starts.2.2.1 _
      show win0_2.index t0 (1 : Fin 4) * 640 + 1 * (y (1 : Fin 4)).val = (y (1 : Fin 4)).val
      omega
    | ⟨2, _⟩ =>
      have s : win0_2.index t0 (2 : Fin 4) = 0 := starts.2.2.1 _
      show win0_2.index t0 (2 : Fin 4) * 8 + 1 * (y (2 : Fin 4)).val = (y (2 : Fin 4)).val
      omega
    | ⟨3, _⟩ =>
      have s : win0_2.index t0 (3 : Fin 4) = 0 := starts.2.2.1 _
      show win0_2.index t0 (3 : Fin 4) * 128 + 1 * (y (3 : Fin 4)).val = (y (3 : Fin 4)).val
      omega
  rw [embOut] at b'
  show (dats (F := Ideal) m 0 c).arrAt 5 cfg0.N y = _
  rw [b']
  unfold out0_5
  rw [View.canon_cons_unit_lit _ _ _ (by decide)]
  show View.ld (iblk m c 2 t0) r0_1 y = _
  unfold View.ld
  have id : r0_1.idx y = y := by
    funext a; apply Fin.ext; rw [Rect.idx_unit_val]
    fin_cases a <;> exact Nat.zero_add _
  show iblk m c 2 t0 (r0_1.idx y) = _
  rw [id]
  show V m c main_arg4 (((cfg0.win 2).blk t0).view.emb y) = _
  rw [embIn]
  rfl

end Cert.ReferenceIdeal.Hand
-- ==== Proof.Algebraic.lean ====
/- The kernel's array and the reference's are the same function of the arguments. -/
module

public import proofs.«01_k».proof.Defs
public import proofs.«01_k».proof.Proof.Join
public import proofs.«01_k».proof.Proof.Reference
public import proofs.«01_k».proof.Proof.Widen

@[expose] public section

set_option maxRecDepth 16384

noncomputable section

namespace Cert.Hand

open Cert.Attention Idealize.ShloMosaic Idealize.ShloMosaic.TcCoe

/-- Two arrays over (batch entry, query, head and coordinate) are the same if they agree at every split of the last axis into key head,
    place and coordinate, and of the query into block and lane. -/
theorem array_ext (x z : (⟨3, ![3, 640, 5120]⟩ : Shape).Idx → EReal)
    (e : ∀ (b : Fin 3) (g : Fin 8) (h qb : Fin 5) (l d : Fin 128),
      x (ix3 b (⟨128 * qb.val + l.val, by omega⟩ : Fin 640) (⟨640 * g.val + 128 * h.val + d.val, by omega⟩ : Fin 5120))
        = z (ix3 b (⟨128 * qb.val + l.val, by omega⟩ : Fin 640) (⟨640 * g.val + 128 * h.val + d.val, by omega⟩ : Fin 5120))) : x = z := by
  funext y
  have h1 : (y 1).val < 640 := (y 1).isLt
  have h2 : (y 2).val < 5120 := (y 2).isLt
  have e := e (y 0) ⟨(y 2).val / 640, by omega⟩ ⟨(y 2).val % 640 / 128, by omega⟩ ⟨(y 1).val / 128, by omega⟩
    ⟨(y 1).val % 128, by omega⟩ ⟨(y 2).val % 128, by omega⟩
  have s : y = ix3 (y 0) (⟨128 * ((y 1).val / 128) + (y 1).val % 128, by omega⟩ : Fin 640)
      (⟨640 * ((y 2).val / 640) + 128 * ((y 2).val % 640 / 128) + (y 2).val % 128, by omega⟩ : Fin 5120) := by
    funext a; apply Fin.ext
    match a with
    | ⟨0, _⟩ => rfl
    | ⟨1, _⟩ => show (y 1).val = 128 * ((y 1).val / 128) + (y 1).val % 128; omega
    | ⟨2, _⟩ => show (y 2).val = 640 * ((y 2).val / 640) + 128 * ((y 2).val % 640 / 128) + (y 2).val % 128; omega
  rw [s]
  exact e

theorem algebraic : Cert.algebraic_KernelIdeal_ReferenceIdeal (hKernelIdeal := Cert.KernelIdeal.Gen.facts)
    (hReferenceIdeal := Cert.ReferenceIdeal.Gen.facts) := by
  intro m g m' g' _ eq
  refine ⟨fun c => (Cert.KernelIdeal.Gen.dats (F := Ideal) m 0 c).arrAt 10 Cert.KernelIdeal.cfg0.N,
    Cert.KernelIdeal.Value.run_blocks (F := Ideal) m g, ?_⟩
  refine (θ_run _ _ _).mono (fun r h c => ⟨(h c).1.trans ?_, (h c).2⟩) (Cert.ReferenceIdeal.Value.run (F := Ideal) m' g')
  rw [Cert.ReferenceIdeal.Read.val_main_v80_eq]
  refine array_ext _ _ fun b kv h qb l d => ?_
  obtain ⟨e0, e1, e2, e3, e4, e5, e6, e7, e8, e9⟩ := eq c
  rw [Cert.ReferenceIdeal.Value.exit_main_arg1, Cert.ReferenceIdeal.Value.exit_main_arg3, Cert.ReferenceIdeal.Value.exit_main_arg5,
    Cert.ReferenceIdeal.Value.exit_main_arg6, Cert.ReferenceIdeal.Value.exit_main_arg7, Cert.ReferenceIdeal.Value.exit_main_arg8,
    Cert.ReferenceIdeal.Value.exit_main_arg9, Cert.ReferenceIdeal.Value.exit_main_v0_0, Cert.ReferenceIdeal.Value.exit_main_v0_1,
    Cert.ReferenceIdeal.Value.exit_main_v0_2, Cert.ReferenceIdeal.Hand.widen0, Cert.ReferenceIdeal.Hand.widen1, Cert.ReferenceIdeal.Hand.widen2,
    e0, e1, e2, e3, e4, e5, e6, e7, e8, e9]
  exact (Cert.ReferenceIdeal.Hand.result_apply _ _ _ _ _ _ _ _ _ _ b kv h _ d).trans (Cert.KernelIdeal.Hand.array_apply m c b kv h qb l d).symm

end Cert.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m g _ => Cert.Kernel.Gen.frame m g,
    fun m g _ => Cert.KernelIdeal.Gen.frame m g,
    fun m g _ => Cert.ReferenceIdeal.Gen.frame m g,
    ⟨IdealRules.named_const.statement Cert.KernelIdeal.κ "future_bias" .f32 0xFC400000#32 ⊥ rfl,
      IdealRules.named_const.statement Cert.KernelIdeal.κ "slash_bias" .f32 0x7C400000#32 ⊤ rfl,
      IdealRules.named_const.statement Cert.KernelIdeal.κ "vertical_bias" .f32 0x7C000000#32 ⊤ rfl,
      IdealRules.named_const.statement Cert.KernelIdeal.κ "log2e" .f32 0x3FB8AA3B#32 (((Real.log 2)⁻¹ : ℝ) : EReal) rfl⟩,
    Cert.Hand.algebraic⟩

end Cert.Proof

end
